-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)

variable [Facts]

def fn {F : FTy → Type} [FloatOps F] (main_arg0 : FVec F S512x1024 .f32) (main_arg1 : FVec F S1024x8192 .f32) : IVec S512x1024 1 × IVec S1024x8192 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  (main_v2, main_v5)
-- ==== Pre_finite_ReferenceIdeal.lean ====
abbrev S512x1024 : Shape := ⟨2, ![512, 1024]⟩
abbrev S1024x16384 : Shape := ⟨2, ![1024, 16384]⟩
abbrev S_ : Shape := ⟨0, ![]⟩

class Facts : Prop where
  bcast_S_S512x1024 : S_.BroadcastsInDim S512x1024 (![] : Fin 0 → Fin S512x1024.rank)
  bcast_S_S1024x16384 : S_.BroadcastsInDim S1024x16384 (![] : Fin 0 → Fin S1024x16384.rank)

variable [Facts]

def fn {F : FTy → Type} [FloatOps F] (main_arg0 : FVec F S512x1024 .f32) (main_arg1 : FVec F S1024x16384 .f32) : IVec S512x1024 1 × IVec S1024x16384 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  (main_v2, main_v5)
-- ==== Kernel.lean ====
abbrev S512x1024 : Shape := ⟨2, ![512, 1024]⟩
abbrev S1024x8192 : Shape := ⟨2, ![1024, 8192]⟩
abbrev S16x512x512 : Shape := ⟨3, ![16, 512, 512]⟩
abbrev S8x512x512 : Shape := ⟨3, ![8, 512, 512]⟩
abbrev S512x128 : Shape := ⟨2, ![512, 128]⟩
abbrev S2x1024x512 : Shape := ⟨3, ![2, 1024, 512]⟩
abbrev S2 : Shape := ⟨1, ![2]⟩
abbrev S8 : Shape := ⟨1, ![8]⟩
abbrev S_ : Shape := ⟨0, ![]⟩
abbrev S1 : Shape := ⟨1, ![1]⟩
abbrev S1x1024x512 : Shape := ⟨3, ![1, 1024, 512]⟩
abbrev S1024x512 : Shape := ⟨2, ![1024, 512]⟩
abbrev S512x1 : Shape := ⟨2, ![512, 1]⟩
abbrev S512x512 : Shape := ⟨2, ![512, 512]⟩
abbrev S1x512x512 : Shape := ⟨3, ![1, 512, 512]⟩
abbrev S512 : Shape := ⟨1, ![512]⟩
abbrev S512x16384 : Shape := ⟨2, ![512, 16384]⟩

abbrev nBuf : Space → Nat
  | .hbm => 7
  | .vmem => 11
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S16x512x512, .bf16⟩
  | .hbm, ⟨3, _⟩ => ⟨S8x512x512, .bf16⟩
  | .hbm, ⟨4, _⟩ => ⟨S8x512x512, .bf16⟩
  | .hbm, ⟨5, _⟩ => ⟨S512x128, .f32⟩
  | .hbm, ⟨6, _⟩ => ⟨S512x16384, .f32⟩
  | .local _ .vmem, ⟨0, _⟩ => ⟨S512x1024, .f32⟩
  | .local _ .vmem, ⟨1, _⟩ => ⟨S16x512x512, .bf16⟩
  | .local _ .vmem, ⟨2, _⟩ => ⟨S8x512x512, .bf16⟩
  | .local _ .vmem, ⟨3, _⟩ => ⟨S8x512x512, .bf16⟩
  | .local _ .vmem, ⟨4, _⟩ => ⟨S512x128, .f32⟩
  | .local _ .vmem, ⟨5, _⟩ => ⟨S2x1024x512, .f32⟩
  | .local _ .vmem, ⟨6, _⟩ => ⟨S16x512x512, .bf16⟩
  | .local _ .vmem, ⟨7, _⟩ => ⟨S8x512x512, .bf16⟩
  | .local _ .vmem, ⟨8, _⟩ => ⟨S8x512x512, .bf16⟩
  | .local _ .vmem, ⟨9, _⟩ => ⟨S512x128, .f32⟩
  | .local _ .vmem, ⟨10, _⟩ => ⟨S512x16384, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 39
abbrev cc1_sem1_0 : DmaSem sig := 40
abbrev cc1_sem2_0 : DmaSem sig := 41
abbrev cc1_sem3_0 : DmaSem sig := 42
abbrev cc1_sem4_0 : DmaSem sig := 43
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 1 → Nat :=
  let true_22 : BitVec 1 := 1#1
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_17 : BitVec 32 := 8#32
  let v26 : BitVec 32 := Scalar.muli v5 c8_i32_17
  let c0_i32_18 : BitVec 32 := 0#32
  let v27 : BitVec 32 := Scalar.addi v26 c0_i32_18
  let c1_i32_19 : BitVec 32 := 1#32
  let v28 : BitVec 32 := Scalar.subi c1_i32_19 v5
  let c8_i32_20 : BitVec 32 := 8#32
  let v29 : BitVec 32 := Scalar.muli v28 c8_i32_20
  let c_m8_i32_21 : BitVec 32 := 4294967288#32
  let v30 : BitVec 32 := Scalar.addi v29 c_m8_i32_21
  let v31 : BitVec 32 := Scalar.select true_22 v27 v30
  let c2_i32_23 : BitVec 32 := 2#32
  let v32 : BitVec 32 := Scalar.remsi v31 c2_i32_23
  ![v32.toNat]
def k0_off2 (d0 : Dev nD) : Fin 3 → Nat :=
  let true_22 : BitVec 1 := 1#1
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_17 : BitVec 32 := 8#32
  let v26 : BitVec 32 := Scalar.muli v5 c8_i32_17
  let c0_i32_18 : BitVec 32 := 0#32
  let v27 : BitVec 32 := Scalar.addi v26 c0_i32_18
  let c1_i32_19 : BitVec 32 := 1#32
  let v28 : BitVec 32 := Scalar.subi c1_i32_19 v5
  let c8_i32_20 : BitVec 32 := 8#32
  let v29 : BitVec 32 := Scalar.muli v28 c8_i32_20
  let c_m8_i32_21 : BitVec 32 := 4294967288#32
  let v30 : BitVec 32 := Scalar.addi v29 c_m8_i32_21
  let v31 : BitVec 32 := Scalar.select true_22 v27 v30
  let c2_i32_23 : BitVec 32 := 2#32
  let v32 : BitVec 32 := Scalar.remsi v31 c2_i32_23
  let c0_i32_24 : BitVec 32 := 0#32
  let c0_i32_25 : BitVec 32 := 0#32
  ![v32.toNat, 0, 0]
def k0_off3 (d0 : Dev nD) : Fin 2 → Nat :=
  let c0_i32_26 : BitVec 32 := 0#32
  let true_16 : BitVec 1 := 1#1
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32 : BitVec 32 := 8#32
  let v20 : BitVec 32 := Scalar.muli v5 c8_i32
  let c0_i32_13 : BitVec 32 := 0#32
  let v21 : BitVec 32 := Scalar.addi v20 c0_i32_13
  let c1_i32_14 : BitVec 32 := 1#32
  let v22 : BitVec 32 := Scalar.subi c1_i32_14 v5
  let c8_i32_15 : BitVec 32 := 8#32
  let v23 : BitVec 32 := Scalar.muli v22 c8_i32_15
  let c_m8_i32 : BitVec 32 := 4294967288#32
  let v24 : BitVec 32 := Scalar.addi v23 c_m8_i32
  let v25 : BitVec 32 := Scalar.select true_16 v21 v24
  let c512_i32 : BitVec 32 := 512#32
  let v33 : BitVec 32 := Scalar.muli v25 c512_i32
  ![0, v33.toNat]
@[reducible] def k0_t1_loop : Scf.Loop 32 :=
  let c0_i32_27 : BitVec 32 := 0#32
  let c8_i32_28 : BitVec 32 := 8#32
  let v40 : BitVec 32 := Scalar.addi c0_i32_27 c8_i32_28
  let c1_i32_29 : BitVec 32 := 1#32
  ⟨c0_i32_27, v40, c1_i32_29⟩
def k0_cond1 (k0_t1 : Fin k0_t1_loop.trips) : BitVec 1 :=
  let c0_i32_27 : BitVec 32 := 0#32
  let c1_i32_29 : BitVec 32 := 1#32
  let arg12 : BitVec 32 := Scf.iv c0_i32_27 c1_i32_29 k0_t1
  let c1_i32_46 : BitVec 32 := 1#32
  let v52 : BitVec 32 := Scalar.addi arg12 c1_i32_46
  let c16_i32 : BitVec 32 := 16#32
  let v53 : BitVec 1 := Scalar.cmpi .slt v52 c16_i32
  let v54 : BitVec 32 := Scalar.extui v53
  let c0_i32_47 : BitVec 32 := 0#32
  let v55 : BitVec 1 := Scalar.cmpi .ne v54 c0_i32_47
  v55

def k0_off4 (d0 : Dev nD) (k0_t1 : Fin k0_t1_loop.trips) : Fin 1 → Nat :=
  let c0_i32_27 : BitVec 32 := 0#32
  let c1_i32_29 : BitVec 32 := 1#32
  let arg12 : BitVec 32 := Scf.iv c0_i32_27 c1_i32_29 k0_t1
  let c1_i32_73 : BitVec 32 := 1#32
  let v100 : BitVec 32 := Scalar.addi arg12 c1_i32_73
  let c8_i32_74 : BitVec 32 := 8#32
  let v101 : BitVec 1 := Scalar.cmpi .slt v100 c8_i32_74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_75 : BitVec 32 := 8#32
  let v102 : BitVec 32 := Scalar.muli v5 c8_i32_75
  let v103 : BitVec 32 := Scalar.addi v102 v100
  let c1_i32_76 : BitVec 32 := 1#32
  let v104 : BitVec 32 := Scalar.subi c1_i32_76 v5
  let c8_i32_77 : BitVec 32 := 8#32
  let v105 : BitVec 32 := Scalar.muli v104 c8_i32_77
  let c8_i32_78 : BitVec 32 := 8#32
  let v106 : BitVec 32 := Scalar.subi v100 c8_i32_78
  let v107 : BitVec 32 := Scalar.addi v105 v106
  let v108 : BitVec 32 := Scalar.select v101 v103 v107
  let c2_i32_79 : BitVec 32 := 2#32
  let v109 : BitVec 32 := Scalar.remsi v108 c2_i32_79
  ![v109.toNat]
def k0_off5 (d0 : Dev nD) (k0_t1 : Fin k0_t1_loop.trips) : Fin 3 → Nat :=
  let c0_i32_27 : BitVec 32 := 0#32
  let c1_i32_29 : BitVec 32 := 1#32
  let arg12 : BitVec 32 := Scf.iv c0_i32_27 c1_i32_29 k0_t1
  let c1_i32_73 : BitVec 32 := 1#32
  let v100 : BitVec 32 := Scalar.addi arg12 c1_i32_73
  let c8_i32_74 : BitVec 32 := 8#32
  let v101 : BitVec 1 := Scalar.cmpi .slt v100 c8_i32_74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_75 : BitVec 32 := 8#32
  let v102 : BitVec 32 := Scalar.muli v5 c8_i32_75
  let v103 : BitVec 32 := Scalar.addi v102 v100
  let c1_i32_76 : BitVec 32 := 1#32
  let v104 : BitVec 32 := Scalar.subi c1_i32_76 v5
  let c8_i32_77 : BitVec 32 := 8#32
  let v105 : BitVec 32 := Scalar.muli v104 c8_i32_77
  let c8_i32_78 : BitVec 32 := 8#32
  let v106 : BitVec 32 := Scalar.subi v100 c8_i32_78
  let v107 : BitVec 32 := Scalar.addi v105 v106
  let v108 : BitVec 32 := Scalar.select v101 v103 v107
  let c2_i32_79 : BitVec 32 := 2#32
  let v109 : BitVec 32 := Scalar.remsi v108 c2_i32_79
  let c0_i32_81 : BitVec 32 := 0#32
  let c0_i32_82 : BitVec 32 := 0#32
  ![v109.toNat, 0, 0]
def k0_off6 (d0 : Dev nD) (k0_t1 : Fin k0_t1_loop.trips) : Fin 2 → Nat :=
  let c0_i32_83 : BitVec 32 := 0#32
  let c0_i32_27 : BitVec 32 := 0#32
  let c1_i32_29 : BitVec 32 := 1#32
  let arg12 : BitVec 32 := Scf.iv c0_i32_27 c1_i32_29 k0_t1
  let c1_i32_73 : BitVec 32 := 1#32
  let v100 : BitVec 32 := Scalar.addi arg12 c1_i32_73
  let c8_i32_74 : BitVec 32 := 8#32
  let v101 : BitVec 1 := Scalar.cmpi .slt v100 c8_i32_74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_75 : BitVec 32 := 8#32
  let v102 : BitVec 32 := Scalar.muli v5 c8_i32_75
  let v103 : BitVec 32 := Scalar.addi v102 v100
  let c1_i32_76 : BitVec 32 := 1#32
  let v104 : BitVec 32 := Scalar.subi c1_i32_76 v5
  let c8_i32_77 : BitVec 32 := 8#32
  let v105 : BitVec 32 := Scalar.muli v104 c8_i32_77
  let c8_i32_78 : BitVec 32 := 8#32
  let v106 : BitVec 32 := Scalar.subi v100 c8_i32_78
  let v107 : BitVec 32 := Scalar.addi v105 v106
  let v108 : BitVec 32 := Scalar.select v101 v103 v107
  let c512_i32_80 : BitVec 32 := 512#32
  let v110 : BitVec 32 := Scalar.muli v108 c512_i32_80
  ![0, v110.toNat]
def k0_off7 (d0 : Dev nD) (k0_t1 : Fin k0_t1_loop.trips) : Fin 1 → Nat :=
  let c0_i32_27 : BitVec 32 := 0#32
  let c1_i32_29 : BitVec 32 := 1#32
  let arg12 : BitVec 32 := Scf.iv c0_i32_27 c1_i32_29 k0_t1
  let c8_i32_48 : BitVec 32 := 8#32
  let v56 : BitVec 1 := Scalar.cmpi .slt arg12 c8_i32_48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_49 : BitVec 32 := 8#32
  let v57 : BitVec 32 := Scalar.muli v5 c8_i32_49
  let v58 : BitVec 32 := Scalar.addi v57 arg12
  let c1_i32_50 : BitVec 32 := 1#32
  let v59 : BitVec 32 := Scalar.subi c1_i32_50 v5
  let c8_i32_51 : BitVec 32 := 8#32
  let v60 : BitVec 32 := Scalar.muli v59 c8_i32_51
  let c8_i32_52 : BitVec 32 := 8#32
  let v61 : BitVec 32 := Scalar.subi arg12 c8_i32_52
  let v62 : BitVec 32 := Scalar.addi v60 v61
  let v63 : BitVec 32 := Scalar.select v56 v58 v62
  let c2_i32_53 : BitVec 32 := 2#32
  let v64 : BitVec 32 := Scalar.remsi v63 c2_i32_53
  ![v64.toNat]
def k0_off8 (d0 : Dev nD) (k0_t1 : Fin k0_t1_loop.trips) : Fin 3 → Nat :=
  let c0_i32_27 : BitVec 32 := 0#32
  let c1_i32_29 : BitVec 32 := 1#32
  let arg12 : BitVec 32 := Scf.iv c0_i32_27 c1_i32_29 k0_t1
  let c8_i32_48 : BitVec 32 := 8#32
  let v56 : BitVec 1 := Scalar.cmpi .slt arg12 c8_i32_48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_49 : BitVec 32 := 8#32
  let v57 : BitVec 32 := Scalar.muli v5 c8_i32_49
  let v58 : BitVec 32 := Scalar.addi v57 arg12
  let c1_i32_50 : BitVec 32 := 1#32
  let v59 : BitVec 32 := Scalar.subi c1_i32_50 v5
  let c8_i32_51 : BitVec 32 := 8#32
  let v60 : BitVec 32 := Scalar.muli v59 c8_i32_51
  let c8_i32_52 : BitVec 32 := 8#32
  let v61 : BitVec 32 := Scalar.subi arg12 c8_i32_52
  let v62 : BitVec 32 := Scalar.addi v60 v61
  let v63 : BitVec 32 := Scalar.select v56 v58 v62
  let c2_i32_53 : BitVec 32 := 2#32
  let v64 : BitVec 32 := Scalar.remsi v63 c2_i32_53
  let c0_i32_55 : BitVec 32 := 0#32
  let c0_i32_56 : BitVec 32 := 0#32
  ![v64.toNat, 0, 0]
def k0_off9 (d0 : Dev nD) (k0_t1 : Fin k0_t1_loop.trips) : Fin 2 → Nat :=
  let c0_i32_57 : BitVec 32 := 0#32
  let c0_i32_27 : BitVec 32 := 0#32
  let c1_i32_29 : BitVec 32 := 1#32
  let arg12 : BitVec 32 := Scf.iv c0_i32_27 c1_i32_29 k0_t1
  let c8_i32_48 : BitVec 32 := 8#32
  let v56 : BitVec 1 := Scalar.cmpi .slt arg12 c8_i32_48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_49 : BitVec 32 := 8#32
  let v57 : BitVec 32 := Scalar.muli v5 c8_i32_49
  let v58 : BitVec 32 := Scalar.addi v57 arg12
  let c1_i32_50 : BitVec 32 := 1#32
  let v59 : BitVec 32 := Scalar.subi c1_i32_50 v5
  let c8_i32_51 : BitVec 32 := 8#32
  let v60 : BitVec 32 := Scalar.muli v59 c8_i32_51
  let c8_i32_52 : BitVec 32 := 8#32
  let v61 : BitVec 32 := Scalar.subi arg12 c8_i32_52
  let v62 : BitVec 32 := Scalar.addi v60 v61
  let v63 : BitVec 32 := Scalar.select v56 v58 v62
  let c512_i32_54 : BitVec 32 := 512#32
  let v65 : BitVec 32 := Scalar.muli v63 c512_i32_54
  ![0, v65.toNat]
def k0_off10 (d0 : Dev nD) (k0_t1 : Fin k0_t1_loop.trips) : Fin 3 → Nat :=
  let c0_i32_27 : BitVec 32 := 0#32
  let c1_i32_29 : BitVec 32 := 1#32
  let arg12 : BitVec 32 := Scf.iv c0_i32_27 c1_i32_29 k0_t1
  let c8_i32_48 : BitVec 32 := 8#32
  let v56 : BitVec 1 := Scalar.cmpi .slt arg12 c8_i32_48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_49 : BitVec 32 := 8#32
  let v57 : BitVec 32 := Scalar.muli v5 c8_i32_49
  let v58 : BitVec 32 := Scalar.addi v57 arg12
  let c1_i32_50 : BitVec 32 := 1#32
  let v59 : BitVec 32 := Scalar.subi c1_i32_50 v5
  let c8_i32_51 : BitVec 32 := 8#32
  let v60 : BitVec 32 := Scalar.muli v59 c8_i32_51
  let c8_i32_52 : BitVec 32 := 8#32
  let v61 : BitVec 32 := Scalar.subi arg12 c8_i32_52
  let v62 : BitVec 32 := Scalar.addi v60 v61
  let v63 : BitVec 32 := Scalar.select v56 v58 v62
  let c2_i32_58 : BitVec 32 := 2#32
  let v71 : BitVec 32 := Scalar.remsi v63 c2_i32_58
  let v72 : Index := Scalar.indexCast v71
  let c0_59 : Index := 0#32
  let c0_60 : Index := 0#32
  ![v72.toNat, 0, 0]
def k0_off11 (d0 : Dev nD) (k0_t1 : Fin k0_t1_loop.trips) : Fin 3 → Nat :=
  let c0_i32_27 : BitVec 32 := 0#32
  let c1_i32_29 : BitVec 32 := 1#32
  let arg12 : BitVec 32 := Scf.iv c0_i32_27 c1_i32_29 k0_t1
  let c8_i32_48 : BitVec 32 := 8#32
  let v56 : BitVec 1 := Scalar.cmpi .slt arg12 c8_i32_48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_49 : BitVec 32 := 8#32
  let v57 : BitVec 32 := Scalar.muli v5 c8_i32_49
  let v58 : BitVec 32 := Scalar.addi v57 arg12
  let c1_i32_50 : BitVec 32 := 1#32
  let v59 : BitVec 32 := Scalar.subi c1_i32_50 v5
  let c8_i32_51 : BitVec 32 := 8#32
  let v60 : BitVec 32 := Scalar.muli v59 c8_i32_51
  let c8_i32_52 : BitVec 32 := 8#32
  let v61 : BitVec 32 := Scalar.subi arg12 c8_i32_52
  let v62 : BitVec 32 := Scalar.addi v60 v61
  let v63 : BitVec 32 := Scalar.select v56 v58 v62
  let v79 : Index := Scalar.indexCast v63
  let c0_62 : Index := 0#32
  let c0_63 : Index := 0#32
  ![v79.toNat, 0, 0]
def k0_off12 (k0_t1 : Fin k0_t1_loop.trips) : Fin 1 → Nat :=
  let c0_i32_27 : BitVec 32 := 0#32
  let c1_i32_29 : BitVec 32 := 1#32
  let arg12 : BitVec 32 := Scf.iv c0_i32_27 c1_i32_29 k0_t1
  ![arg12.toNat]
def k0_off13 (k0_t1 : Fin k0_t1_loop.trips) : Fin 3 → Nat :=
  let c0_i32_27 : BitVec 32 := 0#32
  let c1_i32_29 : BitVec 32 := 1#32
  let arg12 : BitVec 32 := Scf.iv c0_i32_27 c1_i32_29 k0_t1
  let c0_i32_68 : BitVec 32 := 0#32
  let c0_i32_69 : BitVec 32 := 0#32
  ![arg12.toNat, 0, 0]
def k0_off14 (d0 : Dev nD) (k0_t1 : Fin k0_t1_loop.trips) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_64 : BitVec 32 := 8#32
  let v83 : BitVec 32 := Scalar.muli v5 c8_i32_64
  let c0_i32_27 : BitVec 32 := 0#32
  let c1_i32_29 : BitVec 32 := 1#32
  let arg12 : BitVec 32 := Scf.iv c0_i32_27 c1_i32_29 k0_t1
  let v84 : BitVec 32 := Scalar.addi v83 arg12
  let c0_i32_70 : BitVec 32 := 0#32
  let c0_i32_71 : BitVec 32 := 0#32
  ![v84.toNat, 0, 0]
def k0_dev3 (d0 : Dev nD) : Nat :=
  let c0_i32_66 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_65 : BitVec 32 := 2#32
  let v85 : BitVec 32 := Scalar.muli v6 c2_i32_65
  let v86 : BitVec 32 := Scalar.addi c0_i32_66 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v87 : BitVec 32 := Scalar.muli v5 c1_i32_67
  let v88 : BitVec 32 := Scalar.addi v86 v87
  v88.toNat
@[reducible] def k0_t2_loop : Scf.Loop 32 :=
  let c0_i32_32 : BitVec 32 := 0#32
  let c8_i32_33 : BitVec 32 := 8#32
  let v43 : BitVec 32 := Scalar.addi c0_i32_32 c8_i32_33
  let c1_i32_34 : BitVec 32 := 1#32
  ⟨c0_i32_32, v43, c1_i32_34⟩
def k0_cond2 (k0_t2 : Fin k0_t2_loop.trips) : BitVec 1 :=
  let c0_i32_32 : BitVec 32 := 0#32
  let c1_i32_34 : BitVec 32 := 1#32
  let arg12 : BitVec 32 := Scf.iv c0_i32_32 c1_i32_34 k0_t2
  let c8_i32_46 : BitVec 32 := 8#32
  let v52 : BitVec 32 := Scalar.addi arg12 c8_i32_46
  let c1_i32_47 : BitVec 32 := 1#32
  let v53 : BitVec 32 := Scalar.addi v52 c1_i32_47
  let c16_i32 : BitVec 32 := 16#32
  let v54 : BitVec 1 := Scalar.cmpi .slt v53 c16_i32
  let v55 : BitVec 32 := Scalar.extui v54
  let c0_i32_48 : BitVec 32 := 0#32
  let v56 : BitVec 1 := Scalar.cmpi .ne v55 c0_i32_48
  v56

def k0_off15 (d0 : Dev nD) (k0_t2 : Fin k0_t2_loop.trips) : Fin 1 → Nat :=
  let c0_i32_32 : BitVec 32 := 0#32
  let c1_i32_34 : BitVec 32 := 1#32
  let arg12 : BitVec 32 := Scf.iv c0_i32_32 c1_i32_34 k0_t2
  let c8_i32_46 : BitVec 32 := 8#32
  let v52 : BitVec 32 := Scalar.addi arg12 c8_i32_46
  let c1_i32_84 : BitVec 32 := 1#32
  let v118 : BitVec 32 := Scalar.addi v52 c1_i32_84
  let c8_i32_85 : BitVec 32 := 8#32
  let v119 : BitVec 1 := Scalar.cmpi .slt v118 c8_i32_85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_86 : BitVec 32 := 8#32
  let v120 : BitVec 32 := Scalar.muli v5 c8_i32_86
  let v121 : BitVec 32 := Scalar.addi v120 v118
  let c1_i32_87 : BitVec 32 := 1#32
  let v122 : BitVec 32 := Scalar.subi c1_i32_87 v5
  let c8_i32_88 : BitVec 32 := 8#32
  let v123 : BitVec 32 := Scalar.muli v122 c8_i32_88
  let c8_i32_89 : BitVec 32 := 8#32
  let v124 : BitVec 32 := Scalar.subi v118 c8_i32_89
  let v125 : BitVec 32 := Scalar.addi v123 v124
  let v126 : BitVec 32 := Scalar.select v119 v121 v125
  let c2_i32_90 : BitVec 32 := 2#32
  let v127 : BitVec 32 := Scalar.remsi v126 c2_i32_90
  ![v127.toNat]
def k0_off16 (d0 : Dev nD) (k0_t2 : Fin k0_t2_loop.trips) : Fin 3 → Nat :=
  let c0_i32_32 : BitVec 32 := 0#32
  let c1_i32_34 : BitVec 32 := 1#32
  let arg12 : BitVec 32 := Scf.iv c0_i32_32 c1_i32_34 k0_t2
  let c8_i32_46 : BitVec 32 := 8#32
  let v52 : BitVec 32 := Scalar.addi arg12 c8_i32_46
  let c1_i32_84 : BitVec 32 := 1#32
  let v118 : BitVec 32 := Scalar.addi v52 c1_i32_84
  let c8_i32_85 : BitVec 32 := 8#32
  let v119 : BitVec 1 := Scalar.cmpi .slt v118 c8_i32_85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_86 : BitVec 32 := 8#32
  let v120 : BitVec 32 := Scalar.muli v5 c8_i32_86
  let v121 : BitVec 32 := Scalar.addi v120 v118
  let c1_i32_87 : BitVec 32 := 1#32
  let v122 : BitVec 32 := Scalar.subi c1_i32_87 v5
  let c8_i32_88 : BitVec 32 := 8#32
  let v123 : BitVec 32 := Scalar.muli v122 c8_i32_88
  let c8_i32_89 : BitVec 32 := 8#32
  let v124 : BitVec 32 := Scalar.subi v118 c8_i32_89
  let v125 : BitVec 32 := Scalar.addi v123 v124
  let v126 : BitVec 32 := Scalar.select v119 v121 v125
  let c2_i32_90 : BitVec 32 := 2#32
  let v127 : BitVec 32 := Scalar.remsi v126 c2_i32_90
  let c0_i32_92 : BitVec 32 := 0#32
  let c0_i32_93 : BitVec 32 := 0#32
  ![v127.toNat, 0, 0]
def k0_off17 (d0 : Dev nD) (k0_t2 : Fin k0_t2_loop.trips) : Fin 2 → Nat :=
  let c0_i32_94 : BitVec 32 := 0#32
  let c0_i32_32 : BitVec 32 := 0#32
  let c1_i32_34 : BitVec 32 := 1#32
  let arg12 : BitVec 32 := Scf.iv c0_i32_32 c1_i32_34 k0_t2
  let c8_i32_46 : BitVec 32 := 8#32
  let v52 : BitVec 32 := Scalar.addi arg12 c8_i32_46
  let c1_i32_84 : BitVec 32 := 1#32
  let v118 : BitVec 32 := Scalar.addi v52 c1_i32_84
  let c8_i32_85 : BitVec 32 := 8#32
  let v119 : BitVec 1 := Scalar.cmpi .slt v118 c8_i32_85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_86 : BitVec 32 := 8#32
  let v120 : BitVec 32 := Scalar.muli v5 c8_i32_86
  let v121 : BitVec 32 := Scalar.addi v120 v118
  let c1_i32_87 : BitVec 32 := 1#32
  let v122 : BitVec 32 := Scalar.subi c1_i32_87 v5
  let c8_i32_88 : BitVec 32 := 8#32
  let v123 : BitVec 32 := Scalar.muli v122 c8_i32_88
  let c8_i32_89 : BitVec 32 := 8#32
  let v124 : BitVec 32 := Scalar.subi v118 c8_i32_89
  let v125 : BitVec 32 := Scalar.addi v123 v124
  let v126 : BitVec 32 := Scalar.select v119 v121 v125
  let c512_i32_91 : BitVec 32 := 512#32
  let v128 : BitVec 32 := Scalar.muli v126 c512_i32_91
  ![0, v128.toNat]
def k0_off18 (d0 : Dev nD) (k0_t2 : Fin k0_t2_loop.trips) : Fin 1 → Nat :=
  let c0_i32_32 : BitVec 32 := 0#32
  let c1_i32_34 : BitVec 32 := 1#32
  let arg12 : BitVec 32 := Scf.iv c0_i32_32 c1_i32_34 k0_t2
  let c8_i32_46 : BitVec 32 := 8#32
  let v52 : BitVec 32 := Scalar.addi arg12 c8_i32_46
  let c8_i32_49 : BitVec 32 := 8#32
  let v57 : BitVec 1 := Scalar.cmpi .slt v52 c8_i32_49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_50 : BitVec 32 := 8#32
  let v58 : BitVec 32 := Scalar.muli v5 c8_i32_50
  let v59 : BitVec 32 := Scalar.addi v58 v52
  let c1_i32_51 : BitVec 32 := 1#32
  let v60 : BitVec 32 := Scalar.subi c1_i32_51 v5
  let c8_i32_52 : BitVec 32 := 8#32
  let v61 : BitVec 32 := Scalar.muli v60 c8_i32_52
  let c8_i32_53 : BitVec 32 := 8#32
  let v62 : BitVec 32 := Scalar.subi v52 c8_i32_53
  let v63 : BitVec 32 := Scalar.addi v61 v62
  let v64 : BitVec 32 := Scalar.select v57 v59 v63
  let c2_i32_54 : BitVec 32 := 2#32
  let v65 : BitVec 32 := Scalar.remsi v64 c2_i32_54
  ![v65.toNat]
def k0_off19 (d0 : Dev nD) (k0_t2 : Fin k0_t2_loop.trips) : Fin 3 → Nat :=
  let c0_i32_32 : BitVec 32 := 0#32
  let c1_i32_34 : BitVec 32 := 1#32
  let arg12 : BitVec 32 := Scf.iv c0_i32_32 c1_i32_34 k0_t2
  let c8_i32_46 : BitVec 32 := 8#32
  let v52 : BitVec 32 := Scalar.addi arg12 c8_i32_46
  let c8_i32_49 : BitVec 32 := 8#32
  let v57 : BitVec 1 := Scalar.cmpi .slt v52 c8_i32_49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_50 : BitVec 32 := 8#32
  let v58 : BitVec 32 := Scalar.muli v5 c8_i32_50
  let v59 : BitVec 32 := Scalar.addi v58 v52
  let c1_i32_51 : BitVec 32 := 1#32
  let v60 : BitVec 32 := Scalar.subi c1_i32_51 v5
  let c8_i32_52 : BitVec 32 := 8#32
  let v61 : BitVec 32 := Scalar.muli v60 c8_i32_52
  let c8_i32_53 : BitVec 32 := 8#32
  let v62 : BitVec 32 := Scalar.subi v52 c8_i32_53
  let v63 : BitVec 32 := Scalar.addi v61 v62
  let v64 : BitVec 32 := Scalar.select v57 v59 v63
  let c2_i32_54 : BitVec 32 := 2#32
  let v65 : BitVec 32 := Scalar.remsi v64 c2_i32_54
  let c0_i32_56 : BitVec 32 := 0#32
  let c0_i32_57 : BitVec 32 := 0#32
  ![v65.toNat, 0, 0]
def k0_off20 (d0 : Dev nD) (k0_t2 : Fin k0_t2_loop.trips) : Fin 2 → Nat :=
  let c0_i32_58 : BitVec 32 := 0#32
  let c0_i32_32 : BitVec 32 := 0#32
  let c1_i32_34 : BitVec 32 := 1#32
  let arg12 : BitVec 32 := Scf.iv c0_i32_32 c1_i32_34 k0_t2
  let c8_i32_46 : BitVec 32 := 8#32
  let v52 : BitVec 32 := Scalar.addi arg12 c8_i32_46
  let c8_i32_49 : BitVec 32 := 8#32
  let v57 : BitVec 1 := Scalar.cmpi .slt v52 c8_i32_49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_50 : BitVec 32 := 8#32
  let v58 : BitVec 32 := Scalar.muli v5 c8_i32_50
  let v59 : BitVec 32 := Scalar.addi v58 v52
  let c1_i32_51 : BitVec 32 := 1#32
  let v60 : BitVec 32 := Scalar.subi c1_i32_51 v5
  let c8_i32_52 : BitVec 32 := 8#32
  let v61 : BitVec 32 := Scalar.muli v60 c8_i32_52
  let c8_i32_53 : BitVec 32 := 8#32
  let v62 : BitVec 32 := Scalar.subi v52 c8_i32_53
  let v63 : BitVec 32 := Scalar.addi v61 v62
  let v64 : BitVec 32 := Scalar.select v57 v59 v63
  let c512_i32_55 : BitVec 32 := 512#32
  let v66 : BitVec 32 := Scalar.muli v64 c512_i32_55
  ![0, v66.toNat]
def k0_off21 (d0 : Dev nD) (k0_t2 : Fin k0_t2_loop.trips) : Fin 3 → Nat :=
  let c0_i32_32 : BitVec 32 := 0#32
  let c1_i32_34 : BitVec 32 := 1#32
  let arg12 : BitVec 32 := Scf.iv c0_i32_32 c1_i32_34 k0_t2
  let c8_i32_46 : BitVec 32 := 8#32
  let v52 : BitVec 32 := Scalar.addi arg12 c8_i32_46
  let c8_i32_49 : BitVec 32 := 8#32
  let v57 : BitVec 1 := Scalar.cmpi .slt v52 c8_i32_49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_50 : BitVec 32 := 8#32
  let v58 : BitVec 32 := Scalar.muli v5 c8_i32_50
  let v59 : BitVec 32 := Scalar.addi v58 v52
  let c1_i32_51 : BitVec 32 := 1#32
  let v60 : BitVec 32 := Scalar.subi c1_i32_51 v5
  let c8_i32_52 : BitVec 32 := 8#32
  let v61 : BitVec 32 := Scalar.muli v60 c8_i32_52
  let c8_i32_53 : BitVec 32 := 8#32
  let v62 : BitVec 32 := Scalar.subi v52 c8_i32_53
  let v63 : BitVec 32 := Scalar.addi v61 v62
  let v64 : BitVec 32 := Scalar.select v57 v59 v63
  let c2_i32_59 : BitVec 32 := 2#32
  let v72 : BitVec 32 := Scalar.remsi v64 c2_i32_59
  let v73 : Index := Scalar.indexCast v72
  let c0_60 : Index := 0#32
  let c0_61 : Index := 0#32
  ![v73.toNat, 0, 0]
def k0_off22 (d0 : Dev nD) (k0_t2 : Fin k0_t2_loop.trips) : Fin 3 → Nat :=
  let c0_i32_32 : BitVec 32 := 0#32
  let c1_i32_34 : BitVec 32 := 1#32
  let arg12 : BitVec 32 := Scf.iv c0_i32_32 c1_i32_34 k0_t2
  let c8_i32_46 : BitVec 32 := 8#32
  let v52 : BitVec 32 := Scalar.addi arg12 c8_i32_46
  let c8_i32_49 : BitVec 32 := 8#32
  let v57 : BitVec 1 := Scalar.cmpi .slt v52 c8_i32_49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_50 : BitVec 32 := 8#32
  let v58 : BitVec 32 := Scalar.muli v5 c8_i32_50
  let v59 : BitVec 32 := Scalar.addi v58 v52
  let c1_i32_51 : BitVec 32 := 1#32
  let v60 : BitVec 32 := Scalar.subi c1_i32_51 v5
  let c8_i32_52 : BitVec 32 := 8#32
  let v61 : BitVec 32 := Scalar.muli v60 c8_i32_52
  let c8_i32_53 : BitVec 32 := 8#32
  let v62 : BitVec 32 := Scalar.subi v52 c8_i32_53
  let v63 : BitVec 32 := Scalar.addi v61 v62
  let v64 : BitVec 32 := Scalar.select v57 v59 v63
  let v80 : Index := Scalar.indexCast v64
  let c0_63 : Index := 0#32
  let c0_64 : Index := 0#32
  ![v80.toNat, 0, 0]
def k0_off23 (k0_t2 : Fin k0_t2_loop.trips) : Fin 1 → Nat :=
  let c0_i32_32 : BitVec 32 := 0#32
  let c1_i32_34 : BitVec 32 := 1#32
  let arg12 : BitVec 32 := Scf.iv c0_i32_32 c1_i32_34 k0_t2
  ![arg12.toNat]
def k0_off24 (k0_t2 : Fin k0_t2_loop.trips) : Fin 3 → Nat :=
  let c0_i32_32 : BitVec 32 := 0#32
  let c1_i32_34 : BitVec 32 := 1#32
  let arg12 : BitVec 32 := Scf.iv c0_i32_32 c1_i32_34 k0_t2
  let c0_i32_70 : BitVec 32 := 0#32
  let c0_i32_71 : BitVec 32 := 0#32
  ![arg12.toNat, 0, 0]
def k0_off25 (d0 : Dev nD) (k0_t2 : Fin k0_t2_loop.trips) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_66 : BitVec 32 := 8#32
  let v87 : BitVec 32 := Scalar.muli v5 c8_i32_66
  let c0_i32_32 : BitVec 32 := 0#32
  let c1_i32_34 : BitVec 32 := 1#32
  let arg12 : BitVec 32 := Scf.iv c0_i32_32 c1_i32_34 k0_t2
  let v88 : BitVec 32 := Scalar.addi v87 arg12
  let c0_i32_72 : BitVec 32 := 0#32
  let c0_i32_73 : BitVec 32 := 0#32
  ![v88.toNat, 0, 0]
def k0_dev4 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v99 : BitVec 32 := Scalar.muli v2 c2_i32_74
  let v100 : BitVec 32 := Scalar.addi c0_i32_75 v99
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_76 : BitVec 32 := 1#32
  let v101 : BitVec 32 := Scalar.muli v7 c1_i32_76
  let v102 : BitVec 32 := Scalar.addi v100 v101
  v102.toNat
def k0_off26 (k0_t2 : Fin k0_t2_loop.trips) : Fin 3 → Nat :=
  let c0_i32_32 : BitVec 32 := 0#32
  let c1_i32_34 : BitVec 32 := 1#32
  let arg12 : BitVec 32 := Scf.iv c0_i32_32 c1_i32_34 k0_t2
  let v111 : Index := Scalar.indexCast arg12
  let c0_81 : Index := 0#32
  let c0_82 : Index := 0#32
  ![v111.toNat, 0, 0]
@[reducible] def k0_t3_loop : Scf.Loop 32 :=
  let c0_i32_36 : BitVec 32 := 0#32
  let c8_i32_37 : BitVec 32 := 8#32
  let v45 : BitVec 32 := Scalar.addi c0_i32_36 c8_i32_37
  let c1_i32_38 : BitVec 32 := 1#32
  ⟨c0_i32_36, v45, c1_i32_38⟩
def k0_off27 (k0_t3 : Fin k0_t3_loop.trips) : Fin 1 → Nat :=
  let c0_i32_36 : BitVec 32 := 0#32
  let c1_i32_38 : BitVec 32 := 1#32
  let arg12 : BitVec 32 := Scf.iv c0_i32_36 c1_i32_38 k0_t3
  ![arg12.toNat]
def k0_off28 (k0_t3 : Fin k0_t3_loop.trips) : Fin 3 → Nat :=
  let c0_i32_36 : BitVec 32 := 0#32
  let c1_i32_38 : BitVec 32 := 1#32
  let arg12 : BitVec 32 := Scf.iv c0_i32_36 c1_i32_38 k0_t3
  let c0_i32_49 : BitVec 32 := 0#32
  let c0_i32_50 : BitVec 32 := 0#32
  ![arg12.toNat, 0, 0]
def k0_off29 (k0_t3 : Fin k0_t3_loop.trips) : Fin 3 → Nat :=
  let c0_i32_36 : BitVec 32 := 0#32
  let c1_i32_38 : BitVec 32 := 1#32
  let arg12 : BitVec 32 := Scf.iv c0_i32_36 c1_i32_38 k0_t3
  let v62 : Index := Scalar.indexCast arg12
  let c0_53 : Index := 0#32
  let c0_54 : Index := 0#32
  ![v62.toNat, 0, 0]
@[reducible] def k0_t4_loop : Scf.Loop 32 :=
  let c0_i32_42 : BitVec 32 := 0#32
  let c8_i32_43 : BitVec 32 := 8#32
  let v51 : BitVec 32 := Scalar.addi c0_i32_42 c8_i32_43
  let c1_i32_44 : BitVec 32 := 1#32
  ⟨c0_i32_42, v51, c1_i32_44⟩
def k0_off30 (k0_t4 : Fin k0_t4_loop.trips) : Fin 1 → Nat :=
  let c0_i32_42 : BitVec 32 := 0#32
  let c1_i32_44 : BitVec 32 := 1#32
  let arg12 : BitVec 32 := Scf.iv c0_i32_42 c1_i32_44 k0_t4
  ![arg12.toNat]
def k0_off31 (d0 : Dev nD) (k0_t4 : Fin k0_t4_loop.trips) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_46 : BitVec 32 := 8#32
  let v52 : BitVec 32 := Scalar.muli v5 c8_i32_46
  let c0_i32_42 : BitVec 32 := 0#32
  let c1_i32_44 : BitVec 32 := 1#32
  let arg12 : BitVec 32 := Scf.iv c0_i32_42 c1_i32_44 k0_t4
  let v53 : BitVec 32 := Scalar.addi v52 arg12
  let c0_i32_48 : BitVec 32 := 0#32
  let c0_i32_49 : BitVec 32 := 0#32
  ![v53.toNat, 0, 0]
def k0_off32 (k0_t4 : Fin k0_t4_loop.trips) : Fin 3 → Nat :=
  let c0_i32_42 : BitVec 32 := 0#32
  let c1_i32_44 : BitVec 32 := 1#32
  let arg12 : BitVec 32 := Scf.iv c0_i32_42 c1_i32_44 k0_t4
  let c0_i32_50 : BitVec 32 := 0#32
  let c0_i32_51 : BitVec 32 := 0#32
  ![arg12.toNat, 0, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c16_i32 : BitVec 32 := 16#32
  let v13 : BitVec 32 := Scalar.addi c0_i32 c16_i32
  let c1_i32_5 : BitVec 32 := 1#32
  ⟨c0_i32, v13, c1_i32_5⟩
def k1_off1 (k1_t1 : Fin k1_t1_loop.trips) : Fin 3 → Nat :=
  let c0_i32 : BitVec 32 := 0#32
  let c1_i32_5 : BitVec 32 := 1#32
  let arg5 : BitVec 32 := Scf.iv c0_i32 c1_i32_5 k1_t1
  let v17 : Index := Scalar.indexCast arg5
  let c0_10 : Index := 0#32
  let c0_11 : Index := 0#32
  ![v17.toNat, 0, 0]
def k1_off2 (d0 : Dev nD) (k1_t1 : Fin k1_t1_loop.trips) : Fin 2 → Nat :=
  let c0_12 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v6 : BitVec 32 := Scalar.muli v2 c8192_i32
  let c0_i32 : BitVec 32 := 0#32
  let c1_i32_5 : BitVec 32 := 1#32
  let arg5 : BitVec 32 := Scf.iv c0_i32 c1_i32_5 k1_t1
  let c512_i32 : BitVec 32 := 512#32
  let v15 : BitVec 32 := Scalar.muli arg5 c512_i32
  let v16 : BitVec 32 := Scalar.addi v6 v15
  let v23 : Index := Scalar.indexCast v16
  ![0, v23.toNat]
@[reducible] def k1_t2_loop : Scf.Loop 32 :=
  let c0_i32_7 : BitVec 32 := 0#32
  let c8_i32 : BitVec 32 := 8#32
  let v14 : BitVec 32 := Scalar.addi c0_i32_7 c8_i32
  let c1_i32_8 : BitVec 32 := 1#32
  ⟨c0_i32_7, v14, c1_i32_8⟩
def k1_off3 (k1_t2 : Fin k1_t2_loop.trips) : Fin 3 → Nat :=
  let c0_i32_7 : BitVec 32 := 0#32
  let c1_i32_8 : BitVec 32 := 1#32
  let arg5 : BitVec 32 := Scf.iv c0_i32_7 c1_i32_8 k1_t2
  let v19 : Index := Scalar.indexCast arg5
  let c0_11 : Index := 0#32
  let c0_12 : Index := 0#32
  ![v19.toNat, 0, 0]
def k1_off4 (d0 : Dev nD) (k1_t2 : Fin k1_t2_loop.trips) : Fin 2 → Nat :=
  let c0_13 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c8192_i32_3 : BitVec 32 := 8192#32
  let v8 : BitVec 32 := Scalar.muli v7 c8192_i32_3
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32_10 : BitVec 32 := 8#32
  let v15 : BitVec 32 := Scalar.muli v5 c8_i32_10
  let c0_i32_7 : BitVec 32 := 0#32
  let c1_i32_8 : BitVec 32 := 1#32
  let arg5 : BitVec 32 := Scf.iv c0_i32_7 c1_i32_8 k1_t2
  let v16 : BitVec 32 := Scalar.addi v15 arg5
  let c512_i32 : BitVec 32 := 512#32
  let v17 : BitVec 32 := Scalar.muli v16 c512_i32
  let v18 : BitVec 32 := Scalar.addi v8 v17
  let v25 : Index := Scalar.indexCast v18
  ![0, v25.toNat]
def k1_off5 (d0 : Dev nD) (k1_t2 : Fin k1_t2_loop.trips) : Fin 2 → Nat :=
  let c0_19 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c8192_i32_3 : BitVec 32 := 8192#32
  let v8 : BitVec 32 := Scalar.muli v7 c8192_i32_3
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v27 : BitVec 32 := Scalar.subi c1_i32_14 v5
  let c8_i32_15 : BitVec 32 := 8#32
  let v28 : BitVec 32 := Scalar.muli v27 c8_i32_15
  let c0_i32_7 : BitVec 32 := 0#32
  let c1_i32_8 : BitVec 32 := 1#32
  let arg5 : BitVec 32 := Scf.iv c0_i32_7 c1_i32_8 k1_t2
  let v29 : BitVec 32 := Scalar.addi v28 arg5
  let c512_i32_16 : BitVec 32 := 512#32
  let v30 : BitVec 32 := Scalar.muli v29 c512_i32_16
  let v31 : BitVec 32 := Scalar.addi v8 v30
  let v38 : Index := Scalar.indexCast v31
  ![0, v38.toNat]
abbrev stage1_0 : Fin 1 → Memref sig .tc .vmem S16x512x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x16384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x16384 : Shape := ⟨2, ![512, 16384]⟩
abbrev S_ : Shape := ⟨0, ![]⟩
abbrev S512 : Shape := ⟨1, ![512]⟩
abbrev S512x1 : Shape := ⟨2, ![512, 1]⟩

abbrev nBuf : Space → Nat
  | .hbm => 14
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x16384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x16384, .f32⟩
  | .hbm, ⟨13, _⟩ => ⟨S512x16384, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Protocol.lean ====
/-
  The protocol of the first pallas_call, written down: who signals whom, what every semaphore's units carry, and in which
  order a device waits.

  Four devices on a 2 x 2 mesh; device c is at (x, y) = (c / 2, c % 2). Its PARTNER has the other x (the other half of the
  columns of W), its NEIGHBOR the other y (the same half). A device computes the exponentials of its 16 chunks of 512
  columns; of the partner's 16 chunks it receives 8 from the partner (the chunks of the partner's own y) and 8 from its
  neighbor, who received them from ITS partner and passes them on.

  * Barrier semaphore of c: one unit from the partner, one from the neighbor. The partner's unit hands c the partner's 8
    landing slots rx, the neighbor's unit the neighbor's 8 landing slots ry.
  * Four arrays of 8 DMA semaphores. xsend[k] (array 0): the slot of c that was sent comes back. xrecv[k] (array 1): rx[k]
    of c, holding the partner's chunk. fsend[k] (array 2): half a share of rx[k], which was passed on. yrecv[k] (array 3):
    ry[k] of c, holding the chunk the neighbor passed on.
  * Order of the waits: barrier (level 1), xrecv (2), yrecv (3); at each wait only units of a higher level are still owed.
-/
module

public import proofs.«01_k».proof.Proof.Gen.KernelIdeal.Launch
public import proofs.«01_k».proof.Proof.Gen.KernelIdeal.Skeleton
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Transfers
public import Idealize.ShloMosaic.Lib.ViewIndex
public import Idealize.ShloMosaic.Lib.ValueIdxCore
public import Idealize.ShloMosaic.Lib.Tactic
public import Idealize.ShloMosaic.PureOps

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## The mesh -/

/-- The device at the other x. -/
def partner (c : Dev nD) : Dev nD := ⟨((c.val % 2) + 2) - 2 * (c.val / 2), by revert c; decide⟩
/-- The device at the other y. -/
def neighbor (c : Dev nD) : Dev nD := ⟨(2 * (c.val / 2) + 1) - (c.val % 2), by revert c; decide⟩
theorem partner_partner (c : Dev nD) : partner (partner c) = c := by revert c; decide
theorem neighbor_neighbor (c : Dev nD) : neighbor (neighbor c) = c := by revert c; decide
theorem partner_ne (c : Dev nD) : partner c ≠ c := by revert c; decide
theorem neighbor_ne (c : Dev nD) : neighbor c ≠ c := by revert c; decide
theorem partner_ne_neighbor (c : Dev nD) : partner c ≠ neighbor c := by revert c; decide

/-- The slot of `c`'s 16 chunks that is sent k-th: a chunk of its own y. -/
def mine (c : Dev nD) (k : Fin 8) : Fin 16 := ⟨8 * (c.val % 2) + k.val, by have := k.isLt; omega⟩
/-- The slot computed in the second loop's trip k: a chunk of the other y. -/
def other (c : Dev nD) (k : Fin 8) : Fin 16 := ⟨(k.val + 8) - 8 * (c.val % 2), by have := k.isLt; omega⟩

/-! ## The buffers and their slots -/

/-- The 16 exponential chunks of the device's own columns. -/
abbrev eM : Memref sig .tc .vmem S16x512x512 .bf16 := Memref.whole cc0_stg1_0
/-- The landing buffer of the chunks the partner sends. -/
abbrev rxM : Memref sig .tc .vmem S8x512x512 .bf16 := Memref.whole cc0_stg2_0
/-- The landing buffer of the chunks the neighbor passes on. -/
abbrev ryM : Memref sig .tc .vmem S8x512x512 .bf16 := Memref.whole cc0_stg3_0
/-- The double buffer of W's chunks. -/
abbrev wM : Memref sig .tc .vmem S2x1024x512 .f32 := Memref.whole cc0_scratch0
/-- The device's half of W, left in HBM. -/
abbrev bigM : Memref sig .tc .hbm S1024x8192 .f32 := Memref.whole main_arg1

theorem inb16 (j : Fin 16) : ∀ a, (![j.val, 0, 0] : Fin 3 → Nat) a + S1x512x512.size a ≤ S16x512x512.size a := by
  revert j; decide
theorem inb8 (j : Fin 8) : ∀ a, (![j.val, 0, 0] : Fin 3 → Nat) a + S1x512x512.size a ≤ S8x512x512.size a := by
  revert j; decide
theorem inb2 (j : Fin 2) : ∀ a, (![j.val, 0, 0] : Fin 3 → Nat) a + S1x1024x512.size a ≤ S2x1024x512.size a := by
  revert j; decide
theorem inbW (j : Fin 16) : ∀ a, (![0, 512 * j.val] : Fin 2 → Nat) a + S1024x512.size a ≤ S1024x8192.size a := by
  revert j; decide

/-- Slot j of the 16 chunks. -/
abbrev eSl (j : Fin 16) : Memref sig .tc .vmem S512x512 .bf16 :=
  (eM.slice (Rect.unit (s := S16x512x512) ![j.val, 0, 0] S1x512x512.size (inb16 j)) (fun _ => rfl)).squeeze S512x512 squeezes_S1x512x512_S512x512
/-- Slot j of the landing buffer rx, -/
abbrev rxSl (j : Fin 8) : Memref sig .tc .vmem S512x512 .bf16 :=
  (rxM.slice (Rect.unit (s := S8x512x512) ![j.val, 0, 0] S1x512x512.size (inb8 j)) (fun _ => rfl)).squeeze S512x512 squeezes_S1x512x512_S512x512
/-- and of ry. -/
abbrev rySl (j : Fin 8) : Memref sig .tc .vmem S512x512 .bf16 :=
  (ryM.slice (Rect.unit (s := S8x512x512) ![j.val, 0, 0] S1x512x512.size (inb8 j)) (fun _ => rfl)).squeeze S512x512 squeezes_S1x512x512_S512x512
/-- Slot s of the double buffer. -/
abbrev wSl (s : Fin 2) : Memref sig .tc .vmem S1024x512 .f32 :=
  (wM.slice (Rect.unit (s := S2x1024x512) ![s.val, 0, 0] S1x1024x512.size (inb2 s)) (fun _ => rfl)).squeeze S1024x512 squeezes_S1x1024x512_S1024x512
/-- Chunk j of the device's half of W. -/
abbrev bigSl (j : Fin 16) : Memref sig .tc .hbm S1024x512 .f32 :=
  bigM.slice (Rect.unit (s := S1024x8192) ![0, 512 * j.val] S1024x512.size (inbW j)) (fun _ => rfl)

/-! ## The resource algebra: the pipeline's copy of the rounds library, the protocol's, the local transfers' counters -/

/-- The barrier has two duties, one for each of the two devices that signal it. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local transfers' counters. -/
abbrev EC : UEmb Counters (MT nD τ sig Unit (Elt F) ℕ UU ℕ) := countersEmb

variable (m : (ℓ : Loc nD τ sig) → Buf (Elt F) ℓ)

/-! ## The contents -/

/-- The device's copy of x, -/
def xIn (c : Dev nD) : Vec F S512x1024 .f32 := m ((c : Dev nD), Proc.devRef .tc main_arg0)
/-- and its half of W. -/
def wIn (c : Dev nD) : Vec F S1024x8192 .f32 := m ((c : Dev nD), Proc.devRef .tc main_arg1)

/-- Chunk j of the device's half of W. -/
def wChunk (c : Dev nD) (j : ℕ) : Vec F S1x1024x512 .f32 :=
  fun i => wIn m c (ix2 (i 1) ⟨(512 * j + (i 2).val) % 8192, Nat.mod_lt _ (by decide)⟩)
/-- x as the products take it. -/
def xv (c : Dev nD) : FVec F S512x1024 .bf16 := Gen.k0_pay12 (xIn m c)

/-- What the 16 slots end with: slot j the exponentials of chunk j of the device's columns. -/
def eFin (c : Dev nD) : Vec F S16x512x512 .bf16 :=
  fun i => Gen.k0_pay8 (xv m c) (wChunk m c (i 0).val) (ix3 0 (i 1) (i 2))
/-- What rx ends with: the partner's chunks of its own y. -/
def rxFin (c : Dev nD) : Vec F S8x512x512 .bf16 :=
  fun i => eFin m (partner c) (ix3 (mine c (i 0)) (i 1) (i 2))
/-- What ry ends with: the neighbor's rx. -/
def ryFin (c : Dev nD) : Vec F S8x512x512 .bf16 := rxFin m (neighbor c)
/-- The double buffer, both slots at chunk j. -/
def wBuf (c : Dev nD) (j : ℕ) : Vec F S2x1024x512 .f32 := fun i => wChunk m c j (ix3 0 (i 1) (i 2))

/-- Half shares: a source that is read while it is being sent. -/
abbrev qL : PosShare TreeShare := fullShare.left
abbrev qR : PosShare TreeShare := fullShare.right

/-- Slot j of the 16, at share q and contents f; -/
abbrev eAt (c : Dev nD) (j : Fin 16) (q : PosShare TreeShare) (f : Buf (Elt F) ((eSl j).view.loc (c : Thread nD τ))) : sProp 𝕄 :=
  (eSl j).view.loc (c : Thread nD τ) ↦[(eSl j).view.set]{q} f
/-- of rx; -/
abbrev rxAt (c : Dev nD) (j : Fin 8) (q : PosShare TreeShare) (f : Buf (Elt F) ((rxSl j).view.loc (c : Thread nD τ))) : sProp 𝕄 :=
  (rxSl j).view.loc (c : Thread nD τ) ↦[(rxSl j).view.set]{q} f
/-- of ry; -/
abbrev ryAt (c : Dev nD) (j : Fin 8) (q : PosShare TreeShare) (f : Buf (Elt F) ((rySl j).view.loc (c : Thread nD τ))) : sProp 𝕄 :=
  (rySl j).view.loc (c : Thread nD τ) ↦[(rySl j).view.set]{q} f
/-- of the double buffer; -/
abbrev wAt (c : Dev nD) (s : Fin 2) (f : Buf (Elt F) ((wSl s).view.loc (c : Thread nD τ))) : sProp 𝕄 :=
  (wSl s).view.loc (c : Thread nD τ) ↦[(wSl s).view.set]{fullShare} f

/-! ## The cells -/

abbrev barS : Sem sig := sig.barrier 0 rfl
/-- Semaphore k of array q: 0 xsend, 1 xrecv, 2 fsend, 3 yrecv. -/
def sm (q : Fin 4) (k : Fin 8) : DmaSem sig := ⟨7 + 8 * q.val + k.val, by have := q.isLt; have := k.isLt; show _ < 44; omega⟩
/-- The semaphores of the double buffer. -/
def wsm (s : Fin 2) : DmaSem sig := ⟨5 + s.val, by have := s.isLt; show _ < 44; omega⟩

abbrev barCell (c : Dev nD) : GSem nD τ sig := ((c : Thread nD τ), .reg barS)
abbrev cell (c : Dev nD) (q : Fin 4) (k : Fin 8) : GSem nD τ sig := ((c : Thread nD τ), .dma (sm q k))

/-- Who pays device c's units of array q: its own copy, its partner's, its own, its neighbor's. An involution for each q. -/
def payer (q : Fin 4) (c : Dev nD) : Dev nD := if q = 1 then partner c else if q = 3 then neighbor c else c
theorem payer_payer (q : Fin 4) (c : Dev nD) : payer q (payer q c) = c := by revert q c; decide
theorem payer_0 (c : Dev nD) : payer 0 c = c := rfl
theorem payer_1 (c : Dev nD) : payer 1 c = partner c := rfl
theorem payer_2 (c : Dev nD) : payer 2 c = c := rfl
theorem payer_3 (c : Dev nD) : payer 3 c = neighbor c := rfl

/-- The units of one copy of a 512 x 512 slot. -/
abbrev N : ℕ := (eSl 0).view.dmaCredit
theorem N_pos : 0 < N := View.dmaCredit_pos _ (by decide)

/-! ## The schedule -/

/-- A unit of the barrier: the partner's (`true`) hands over the partner's landing slots rx and the fact that its xrecv cells
    are open, the neighbor's (`false`) the neighbor's ry and yrecv. -/
def barPay (c : Dev nD) (d : Bool) : sProp 𝕄 :=
  if d then bigSep Finset.univ fun k : Fin 8 => iprop((∃ f, rxAt (partner c) k fullShare f) ∗ reached ER (cell (partner c) 1 k) 0)
  else bigSep Finset.univ fun k : Fin 8 => iprop((∃ f, ryAt (neighbor c) k fullShare f) ∗ reached ER (cell (neighbor c) 3 k) 0)

/-- The units of a DMA semaphore, by its array. -/
def pay (c : Dev nD) (q : Fin 4) (k : Fin 8) : sProp 𝕄 :=
  if q = 0 then eAt c (mine c k) fullShare (eFin m c)
  else if q = 1 then rxAt c k fullShare (rxFin m c)
  else if q = 2 then rxAt c k qL (rxFin m c)
  else ryAt c k fullShare (ryFin m c)

/-- A DMA semaphore of the protocol. -/
abbrev IsTalk (s : DmaSem sig) : Prop := 7 ≤ s.val ∧ s.val < 39

/-- One round: two duties on every barrier cell, one on every cell of the four arrays. -/
def rd : Rounds.Schedule (GSem nD τ sig) Bool 𝕄 where
  duties g r := match g.2 with
    | .reg s => if r = 0 ∧ g.1.2 = .tc ∧ s = barS then {true, false} else ∅
    | .dma s => if r = 0 ∧ g.1.2 = .tc ∧ IsTalk s then {true} else ∅
  unitless _ := False
  amount g _ _ := match g.2 with
    | .reg _ => 1
    | .dma _ => N
  payload g _ d := match g.2 with
    | .reg _ => barPay g.1.1 d
    | .dma s => if h : IsTalk s then pay m g.1.1 ⟨(s.val - 7) / 8, by omega⟩ ⟨(s.val - 7) % 8, by omega⟩ else iprop(emp)
  amount_pos g _ _ _ := by
    rcases g with ⟨t, s | s⟩
    · exact Nat.one_pos
    · exact N_pos

instance rd_payload_storable (g : GSem nD τ sig) (r : ℕ) (d : Bool) :
    BI.Storable (upEmb : UEmb _ 𝕄) ((rd (F := F) m).payload g r d) := by
  rcases g with ⟨t, s | s⟩
  · show BI.Storable upEmb (barPay t.1 d)
    unfold barPay
    split <;> infer_instance
  · show BI.Storable upEmb (if h : IsTalk s then pay m t.1 ⟨(s.val - 7) / 8, by omega⟩ ⟨(s.val - 7) % 8, by omega⟩ else iprop(emp))
    unfold pay
    (repeat' split) <;> infer_instance

section Sched

variable (c : Dev nD) (q : Fin 4) (k : Fin 8)

theorem isTalk_sm : IsTalk (sm q k) := by
  have := q.isLt; have := k.isLt
  constructor
  · show 7 ≤ 7 + 8 * q.val + k.val; omega
  · show 7 + 8 * q.val + k.val < 39; omega

theorem duties_bar : (rd (F := F) m).duties (barCell c) 0 = {true, false} := by
  dsimp only [rd]; exact if_pos ⟨rfl, rfl, rfl⟩
theorem duties_cell : (rd (F := F) m).duties (cell c q k) 0 = {true} := by
  dsimp only [rd]; exact if_pos ⟨rfl, rfl, isTalk_sm q k⟩
theorem mem_bar (d : Bool) : d ∈ (rd (F := F) m).duties (barCell c) 0 := by rw [duties_bar]; cases d <;> decide
theorem mem_cell : true ∈ (rd (F := F) m).duties (cell c q k) 0 := by rw [duties_cell]; exact Finset.mem_singleton_self _
theorem duties_later (g : GSem nD τ sig) : ∀ r, 1 ≤ r → (rd (F := F) m).duties g r = ∅ := by
  intro r hr
  rcases g with ⟨t, s | s⟩
  · dsimp only [rd]; exact if_neg (fun h => by omega)
  · dsimp only [rd]; exact if_neg (fun h => by omega)

theorem amount_bar (d : Bool) : (rd (F := F) m).amount (barCell c) 0 d = 1 := rfl
theorem amount_cell (d : Bool) : (rd (F := F) m).amount (cell c q k) 0 d = N := rfl

theorem expect_bar : (rd (F := F) m).expect (barCell c) 0 = 2 := by
  unfold Schedule.expect Schedule.amountOf; rw [duties_bar]; rfl
theorem expect_cell : (rd (F := F) m).expect (cell c q k) 0 = N := by
  unfold Schedule.expect Schedule.amountOf; rw [duties_cell, Finset.sum_singleton, amount_cell]

theorem payload_bar (d : Bool) : (rd (F := F) m).payload (barCell c) 0 d = barPay c d := rfl
theorem payload_cell (d : Bool) : (rd (F := F) m).payload (cell c q k) 0 d = pay m c q k := by
  dsimp only [rd]
  rw [dif_pos (isTalk_sm q k)]
  have := q.isLt; have := k.isLt
  congr 1
  · apply Fin.ext; show (7 + 8 * q.val + k.val - 7) / 8 = q.val; omega
  · apply Fin.ext; show (7 + 8 * q.val + k.val - 7) % 8 = k.val; omega

theorem rest_bar : bigSep ((rd (F := F) m).duties (barCell c) 0 \ ∅) (fun u => (rd (F := F) m).payload (barCell c) 0 u)
    = iprop(barPay c true ∗ barPay c false) := by
  rw [Finset.sdiff_empty, duties_bar, bigSep_insert (by decide), bigSep_singleton]; rfl
theorem rest_cell : bigSep ((rd (F := F) m).duties (cell c q k) 0 \ ∅) (fun u => (rd (F := F) m).payload (cell c q k) 0 u)
    = pay m c q k := by
  rw [Finset.sdiff_empty, duties_cell, bigSep_singleton, payload_cell]

theorem pay_0 : pay m c 0 k = eAt c (mine c k) fullShare (eFin m c) := rfl
theorem pay_1 : pay m c 1 k = rxAt c k fullShare (rxFin m c) := rfl
theorem pay_2 : pay m c 2 k = rxAt c k qL (rxFin m c) := rfl
theorem pay_3 : pay m c 3 k = ryAt c k fullShare (ryFin m c) := rfl

end Sched

/-! ## What is owed, and the levels -/

/-- The units of the partner's xrecv cells from the k-th on. -/
def owX (c : Dev nD) (k : ℕ) : CellTallies nD τ sig Unit :=
  ∑ j ∈ Finset.univ.filter (fun j : Fin 8 => k ≤ j.val), tallyAt (cell (partner c) 1 j) () N
/-- The units of the neighbor's yrecv cells from the k-th on. -/
def owY (c : Dev nD) (k : ℕ) : CellTallies nD τ sig Unit :=
  ∑ j ∈ Finset.univ.filter (fun j : Fin 8 => k ≤ j.val), tallyAt (cell (neighbor c) 3 j) () N
/-- What device c owes at launch. -/
def O₀ (c : Dev nD) : CellTallies nD τ sig Unit :=
  owY c 0 + owX c 0 + tallyAt (barCell (neighbor c)) () 1 + tallyAt (barCell (partner c)) () 1

theorem filter_step (k : Fin 8) : Finset.univ.filter (fun j : Fin 8 => k.val ≤ j.val)
    = insert k (Finset.univ.filter fun j : Fin 8 => k.val + 1 ≤ j.val) := by revert k; decide
theorem not_mem_filter_step (k : Fin 8) : k ∉ Finset.univ.filter fun j : Fin 8 => k.val + 1 ≤ j.val := by revert k; decide
theorem owX_step (c : Dev nD) (k : Fin 8) : owX c k.val = owX c (k.val + 1) + tallyAt (cell (partner c) 1 k) () N := by
  unfold owX; rw [filter_step k, Finset.sum_insert (not_mem_filter_step k), add_comm]
theorem owY_step (c : Dev nD) (k : Fin 8) : owY c k.val = owY c (k.val + 1) + tallyAt (cell (neighbor c) 3 k) () N := by
  unfold owY; rw [filter_step k, Finset.sum_insert (not_mem_filter_step k), add_comm]
theorem owX_8 (c : Dev nD) : owX c 8 = 0 := by
  unfold owX; rw [show Finset.univ.filter (fun j : Fin 8 => 8 ≤ j.val) = ∅ from by decide, Finset.sum_empty]
theorem owY_8 (c : Dev nD) : owY c 8 = 0 := by
  unfold owY; rw [show Finset.univ.filter (fun j : Fin 8 => 8 ≤ j.val) = ∅ from by decide, Finset.sum_empty]

def L (g : GSem nD τ sig) : Finset Unit := if g.1.2 = .tc then {()} else ∅
/-- Barrier cells at 1, xrecv cells at 2, yrecv cells at 3, the rest at 0. -/
def lv (g : GSem nD τ sig) (_ : Unit) : ℕ := match g.2 with
  | .reg s => if s = barS then 1 else 0
  | .dma s => if 15 ≤ s.val ∧ s.val < 23 then 2 else if 31 ≤ s.val ∧ s.val < 39 then 3 else 0

theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) : lv (barCell c) () = 1 := rfl
theorem lv_1 (c : Dev nD) (k : Fin 8) : lv (cell c 1 k) () = 2 := by revert c k; decide
theorem lv_3 (c : Dev nD) (k : Fin 8) : lv (cell c 3 k) () = 3 := by revert c k; decide
theorem lv_w (c : Dev nD) (s : Fin 2) : lv ((c : Thread nD τ), .dma (wsm s)) () = 0 := by revert c s; decide

/-- Every cell in the tally has the index (), and lies above n. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  have hg' : 0 < O g u + O' g u := hg
  rcases Nat.eq_zero_or_pos (O g u) with h0 | h0
  · exact h' g u (by omega)
  · exact h g u h0
theorem above_tally {n N' : ℕ} (g : GSem nD τ sig) (hL : () ∈ L g) (hl : n < lv g ()) : Above n (tallyAt g () N') := by
  intro g' u hg
  rw [tallyAt_apply] at hg
  by_cases h : g' = g ∧ u = ()
  · rw [h.1, h.2]; exact ⟨hL, hl⟩
  · rw [if_neg h] at hg; exact absurd hg (Nat.lt_irrefl 0)
theorem above_sum {n : ℕ} {J : Type} (s : Finset J) (f : J → CellTallies nD τ sig Unit) (h : ∀ j ∈ s, Above n (f j)) :
    Above n (∑ j ∈ s, f j) := by
  classical
  induction s using Finset.induction_on with
  | empty => rw [Finset.sum_empty]; exact above_zero n
  | insert a s ha ih =>
    rw [Finset.sum_insert ha]
    exact above_add (h a (Finset.mem_insert_self _ _)) (ih fun j hj => h j (Finset.mem_insert_of_mem hj))

theorem mem_L (c : Dev nD) (s : SemLoc sig) : () ∈ L ((c : Thread nD τ), s) := by rw [L_tc]; exact Finset.mem_singleton_self _
theorem above_owX {n : ℕ} (hn : n < 2) (c : Dev nD) (k : ℕ) : Above n (owX c k) :=
  above_sum _ _ fun j _ => above_tally _ (mem_L _ _) (by rw [lv_1]; exact hn)
theorem above_owY {n : ℕ} (hn : n < 3) (c : Dev nD) (k : ℕ) : Above n (owY c k) :=
  above_sum _ _ fun j _ => above_tally _ (mem_L _ _) (by rw [lv_3]; exact hn)
theorem above_O₀ (c : Dev nD) : Above 0 (O₀ c) :=
  above_add (above_add (above_add (above_owY (by decide) c 0) (above_owX (by decide) c 0))
    (above_tally _ (mem_L _ _) (by rw [lv_bar]; decide))) (above_tally _ (mem_L _ _) (by rw [lv_bar]; decide))

/-- A device may wait on a cell of level at most n while all it owes lies above n. -/
theorem mayWait (c : Dev nD) (s : SemLoc sig) (n : ℕ) (hs : lv ((c : Thread nD τ), s) () ≤ n) {O : CellTallies nD τ sig Unit}
    (hO : Above n O) : (levAts L lv : sProp 𝕄) ⊢ MayWait (c : Thread nD τ) s () O :=
  MayOwe.of_cut (L := L) (lev := lv) n (fun p hp => by rw [Finset.mem_singleton.mp hp]; exact mem_L c s)
    (fun g u hg => (hO g u hg).1) (fun p hp => by rw [Finset.mem_singleton.mp hp]; exact hs) (fun g u hg => (hO g u hg).2)

end Cert.Talk

end
-- ==== Proof.Slots.lean ====
/-
  The slots of the communication buffers: which elements they are, how a buffer splits into them, and what a copy or a
  store into one leaves there.
-/
module

public import proofs.«01_k».proof.Proof.Protocol
public import Idealize.ShloMosaic.Lib.ValueLayout
public import Idealize.ShloMosaic.Lib.Ring
public import Idealize.ShloMosaic.Lib.Pipeline.ValueKit.Geometry

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 eq_ix2 eq_ix3)

variable {F : FTy → Type} [FloatOps F]

local notation "𝕄" => MT nD τ sig Unit (Elt F) ℕ UU ℕ

/-! ## A leading slot of a rank-3 buffer -/

theorem mem_lead {n a b : ℕ} (j : ℕ) (inb : ∀ x, (![j, 0, 0] : Fin 3 → Nat) x + (![1, a, b] : Fin 3 → Nat) x ≤ (⟨3, ![n, a, b]⟩ : Shape).size x)
    (i : (⟨3, ![n, a, b]⟩ : Shape).Idx) :
    i ∈ (Rect.unit (s := ⟨3, ![n, a, b]⟩) ![j, 0, 0] ![1, a, b] inb).set ↔ (i 0).val = j := by
  rw [Rect.mem_set_unit]
  constructor
  · intro h
    have h0 := h 0
    have h1 : j ≤ (i 0).val ∧ (i 0).val < j + 1 := h0
    omega
  · intro h x
    match x with
    | ⟨0, _⟩ => exact ⟨h.ge, by show (i 0).val < j + 1; omega⟩
    | ⟨1, _⟩ => exact ⟨Nat.zero_le _, by have h1 : (i 1).val < a := (i 1).isLt; show (i 1).val < 0 + a; omega⟩
    | ⟨2, _⟩ => exact ⟨Nat.zero_le _, by have h1 : (i 2).val < b := (i 2).isLt; show (i 2).val < 0 + b; omega⟩

theorem emb_lead {n a b : ℕ} (j : Fin n) (inb : ∀ x, (![j.val, 0, 0] : Fin 3 → Nat) x + (![1, a, b] : Fin 3 → Nat) x ≤ (⟨3, ![n, a, b]⟩ : Shape).size x)
    (i : (⟨3, ![1, a, b]⟩ : Shape).Idx) :
    (Rect.unit (s := ⟨3, ![n, a, b]⟩) ![j.val, 0, 0] ![1, a, b] inb).emb i = ix3 j (i 1) (i 2) := by
  have h0 : (i 0).val = 0 := by have h : (i 0).val < 1 := (i 0).isLt; omega
  apply Shape.idx3_ext
  · rw [ValueKit.rect_emb_unit_val]; show j.val + (i 0).val = j.val; omega
  · rw [ValueKit.rect_emb_unit_val]; show 0 + (i 1).val = (i 1).val; omega
  · rw [ValueKit.rect_emb_unit_val]; show 0 + (i 2).val = (i 2).val; omega

theorem emb_lead_ix2 {n a b : ℕ} (j : Fin n) (inb : ∀ x, (![j.val, 0, 0] : Fin 3 → Nat) x + (![1, a, b] : Fin 3 → Nat) x ≤ (⟨3, ![n, a, b]⟩ : Shape).size x)
    (h : (⟨2, ![a, b]⟩ : Shape).numel = (⟨3, ![1, a, b]⟩ : Shape).numel) (i : (⟨2, ![a, b]⟩ : Shape).Idx) :
    (Rect.unit (s := ⟨3, ![n, a, b]⟩) ![j.val, 0, 0] ![1, a, b] inb).emb (Shape.reshapeEquiv h i) = ix3 j (i 0) (i 1) := by
  have e : Shape.reshapeEquiv h i = ix3 (⟨0, Nat.one_pos⟩ : Fin 1) (i 0) (i 1) :=
    (congrArg (Shape.reshapeEquiv h) (eq_ix2 i)).trans (ValueIdx.reshapeEquiv_ix2_1ab h (i 0) (i 1))
  rw [e]; exact emb_lead j inb _

/-- Writing what the view reads of g makes the buffer g on the view's elements. -/
theorem write_eq_on {κ : Kind} {sp : Space} {s : Shape} {e : EltTy} (v : View sig κ sp s e) (f g : v.ty.Contents (Elt F))
    (w : s.Idx → Elt F e) (h : v.read (Elt F) g = w) : ∀ i ∈ v.set, v.write (Elt F) f w Finset.univ i = g i := by
  intro i hi
  obtain ⟨x, -, rfl⟩ := Finset.mem_map.mp hi
  rw [View.write_emb_of_mem _ _ (Finset.mem_univ _), ← h, View.read_apply, cast_cast, cast_eq]

section

variable (c : Dev nD)

/-! ## The slots' elements -/

abbrev eSet (j : Fin 16) : Finset S16x512x512.Idx := (eSl j).view.set
theorem mem_eSl (j : Fin 16) (i : S16x512x512.Idx) : i ∈ eSet j ↔ (i 0).val = j.val :=
  (iff_of_eq (congrArg (fun S : Finset S16x512x512.Idx => i ∈ S)
    ((Memref.set_view_squeeze _ _).trans (View.set_slice_whole cc0_stg1_0 _)))).trans (mem_lead j.val (inb16 j) i)
abbrev rxSet (j : Fin 8) : Finset S8x512x512.Idx := (rxSl j).view.set
theorem mem_rxSl (j : Fin 8) (i : S8x512x512.Idx) : i ∈ rxSet j ↔ (i 0).val = j.val :=
  (iff_of_eq (congrArg (fun S : Finset S8x512x512.Idx => i ∈ S)
    ((Memref.set_view_squeeze _ _).trans (View.set_slice_whole cc0_stg2_0 _)))).trans (mem_lead j.val (inb8 j) i)
abbrev rySet (j : Fin 8) : Finset S8x512x512.Idx := (rySl j).view.set
theorem mem_rySl (j : Fin 8) (i : S8x512x512.Idx) : i ∈ rySet j ↔ (i 0).val = j.val :=
  (iff_of_eq (congrArg (fun S : Finset S8x512x512.Idx => i ∈ S)
    ((Memref.set_view_squeeze _ _).trans (View.set_slice_whole cc0_stg3_0 _)))).trans (mem_lead j.val (inb8 j) i)
abbrev wSet (j : Fin 2) : Finset S2x1024x512.Idx := (wSl j).view.set
theorem mem_wSl (j : Fin 2) (i : S2x1024x512.Idx) : i ∈ wSet j ↔ (i 0).val = j.val :=
  (iff_of_eq (congrArg (fun S : Finset S2x1024x512.Idx => i ∈ S)
    ((Memref.set_view_squeeze _ _).trans (View.set_slice_whole cc0_scratch0 _)))).trans (mem_lead j.val (inb2 j) i)

/-! ## What they read -/

theorem eSl_read (j : Fin 16) (f : S16x512x512.Idx → Elt F .bf16) (x : S512x512.Idx) :
    (eSl j).view.read (Elt F) f x = f (ix3 j (x 0) (x 1)) := congrArg f (emb_lead_ix2 j (inb16 j) _ x)
theorem rxSl_read (j : Fin 8) (f : S8x512x512.Idx → Elt F .bf16) (x : S512x512.Idx) :
    (rxSl j).view.read (Elt F) f x = f (ix3 j (x 0) (x 1)) := congrArg f (emb_lead_ix2 j (inb8 j) _ x)
theorem rySl_read (j : Fin 8) (f : S8x512x512.Idx → Elt F .bf16) (x : S512x512.Idx) :
    (rySl j).view.read (Elt F) f x = f (ix3 j (x 0) (x 1)) := congrArg f (emb_lead_ix2 j (inb8 j) _ x)
theorem wSl_read (j : Fin 2) (f : S2x1024x512.Idx → Elt F .f32) (x : S1024x512.Idx) :
    (wSl j).view.read (Elt F) f x = f (ix3 j (x 0) (x 1)) := congrArg f (emb_lead_ix2 j (inb2 j) _ x)
theorem bigSl_read (j : Fin 16) (f : S1024x8192.Idx → Elt F .f32) (x : S1024x512.Idx) :
    (bigSl j).view.read (Elt F) f x
      = f (ix2 (x 0) ⟨512 * j.val + (x 1).val, by have h : (x 1).val < 512 := (x 1).isLt; have := j.isLt; omega⟩) := by
  refine congrArg f (funext fun a => Fin.ext ?_)
  match a with
  | ⟨0, _⟩ =>
    exact (ValueKit.rect_emb_unit_val (s := S1024x8192) ![0, 512 * j.val] S1024x512.size (inbW j) x 0).trans (Nat.zero_add _)
  | ⟨1, _⟩ => exact ValueKit.rect_emb_unit_val (s := S1024x8192) ![0, 512 * j.val] S1024x512.size (inbW j) x 1

/-- Slot j of the 16 as a load or a store reaches it, -/
abbrev eRect (j : Fin 16) : Rect S16x512x512 := Rect.unit (s := S16x512x512) ![j.val, 0, 0] S1x512x512.size (inb16 j)
/-- slot j of rx and ry, -/
abbrev rRect (j : Fin 8) : Rect S8x512x512 := Rect.unit (s := S8x512x512) ![j.val, 0, 0] S1x512x512.size (inb8 j)
/-- and of the double buffer. -/
abbrev wRect (j : Fin 2) : Rect S2x1024x512 := Rect.unit (s := S2x1024x512) ![j.val, 0, 0] S1x1024x512.size (inb2 j)

theorem eAcc_read (j : Fin 16) (f : S16x512x512.Idx → Elt F .bf16) (x : S1x512x512.Idx) :
    (eM.access (eRect j)).read (Elt F) f x = f (ix3 j (x 1) (x 2)) := congrArg f (emb_lead j (inb16 j) x)
theorem rxM_readAt (j : Fin 8) (f : S8x512x512.Idx → Elt F .bf16) (x : S1x512x512.Idx) :
    rxM.view.readAt (Elt F) (rRect j) f x = f (ix3 j (x 1) (x 2)) := congrArg f (emb_lead j (inb8 j) x)
theorem ryM_readAt (j : Fin 8) (f : S8x512x512.Idx → Elt F .bf16) (x : S1x512x512.Idx) :
    ryM.view.readAt (Elt F) (rRect j) f x = f (ix3 j (x 1) (x 2)) := congrArg f (emb_lead j (inb8 j) x)
theorem wM_readAt (j : Fin 2) (f : S2x1024x512.Idx → Elt F .f32) (x : S1x1024x512.Idx) :
    wM.view.readAt (Elt F) (wRect j) f x = f (ix3 j (x 1) (x 2)) := congrArg f (emb_lead j (inb2 j) x)

theorem eAcc_set (j : Fin 16) : (eM.access (eRect j)).set = (eSl j).view.set := by rw [Memref.set_view_squeeze]
theorem eM_setOn (j : Fin 16) : eM.view.setOn (eRect j).set = (eSl j).view.set := by
  rw [Memref.set_view_squeeze]; exact (View.set_slice eM.view (eRect j)).symm
theorem rxM_setOn (j : Fin 8) : rxM.view.setOn (rRect j).set = (rxSl j).view.set := by
  rw [Memref.set_view_squeeze]; exact (View.set_slice rxM.view (rRect j)).symm
theorem ryM_setOn (j : Fin 8) : ryM.view.setOn (rRect j).set = (rySl j).view.set := by
  rw [Memref.set_view_squeeze]; exact (View.set_slice ryM.view (rRect j)).symm
theorem wM_setOn (j : Fin 2) : wM.view.setOn (wRect j).set = (wSl j).view.set := by
  rw [Memref.set_view_squeeze]; exact (View.set_slice wM.view (wRect j)).symm

/-! ## A buffer is its slots -/

theorem eSl_disj : ∀ j j' : Fin 16, j ≠ j' → Disjoint (eSet j) (eSet j') := fun j j' h => by
  rw [Finset.disjoint_left]; intro i hi hi'
  exact h (Fin.ext (((mem_eSl j i).mp hi).symm.trans ((mem_eSl j' i).mp hi')))
theorem eSl_cover : Finset.univ.biUnion eSet = Finset.univ := by
  ext i; simp only [Finset.mem_biUnion, Finset.mem_univ, true_and, iff_true]
  exact ⟨i 0, (mem_eSl (i 0) i).mpr rfl⟩
theorem rxSl_disj : ∀ j j' : Fin 8, j ≠ j' → Disjoint (rxSet j) (rxSet j') := fun j j' h => by
  rw [Finset.disjoint_left]; intro i hi hi'
  exact h (Fin.ext (((mem_rxSl j i).mp hi).symm.trans ((mem_rxSl j' i).mp hi')))
theorem rxSl_cover : Finset.univ.biUnion rxSet = Finset.univ := by
  ext i; simp only [Finset.mem_biUnion, Finset.mem_univ, true_and, iff_true]
  exact ⟨i 0, (mem_rxSl (i 0) i).mpr rfl⟩
theorem rySl_disj : ∀ j j' : Fin 8, j ≠ j' → Disjoint (rySet j) (rySet j') := fun j j' h => by
  rw [Finset.disjoint_left]; intro i hi hi'
  exact h (Fin.ext (((mem_rySl j i).mp hi).symm.trans ((mem_rySl j' i).mp hi')))
theorem rySl_cover : Finset.univ.biUnion rySet = Finset.univ := by
  ext i; simp only [Finset.mem_biUnion, Finset.mem_univ, true_and, iff_true]
  exact ⟨i 0, (mem_rySl (i 0) i).mpr rfl⟩
theorem wSl_disj : ∀ j j' : Fin 2, j ≠ j' → Disjoint (wSet j) (wSet j') := fun j j' h => by
  rw [Finset.disjoint_left]; intro i hi hi'
  exact h (Fin.ext (((mem_wSl j i).mp hi).symm.trans ((mem_wSl j' i).mp hi')))
theorem wSl_cover : Finset.univ.biUnion wSet = Finset.univ := by
  ext i; simp only [Finset.mem_biUnion, Finset.mem_univ, true_and, iff_true]
  exact ⟨i 0, (mem_wSl (i 0) i).mpr rfl⟩

abbrev eLoc : Loc nD τ sig := (c : Thread nD τ).loc cc0_stg1_0
abbrev rxLoc : Loc nD τ sig := (c : Thread nD τ).loc cc0_stg2_0
abbrev ryLoc : Loc nD τ sig := (c : Thread nD τ).loc cc0_stg3_0
abbrev wLoc : Loc nD τ sig := (c : Thread nD τ).loc cc0_scratch0
abbrev bigLoc : Loc nD τ sig := (c : Thread nD τ).loc main_arg1

theorem e_split (f : Buf (Elt F) (eLoc c)) :
    (eLoc c ↦{fullShare} f : sProp 𝕄) = bigSep Finset.univ fun j : Fin 16 => eAt c j fullShare f :=
  Ring.pointsTo_blocks (ℓ := eLoc c) eSet eSl_disj eSl_cover f
theorem rx_split (q : PosShare TreeShare) (f : Buf (Elt F) (rxLoc c)) :
    (rxLoc c ↦{q} f : sProp 𝕄) = bigSep Finset.univ fun j : Fin 8 => rxAt c j q f :=
  Ring.pointsTo_blocks (ℓ := rxLoc c) rxSet rxSl_disj rxSl_cover f
theorem ry_split (f : Buf (Elt F) (ryLoc c)) :
    (ryLoc c ↦{fullShare} f : sProp 𝕄) = bigSep Finset.univ fun j : Fin 8 => ryAt c j fullShare f :=
  Ring.pointsTo_blocks (ℓ := ryLoc c) rySet rySl_disj rySl_cover f
theorem w_split (f : Buf (Elt F) (wLoc c)) :
    (wLoc c ↦{fullShare} f : sProp 𝕄) = bigSep Finset.univ fun j : Fin 2 => wAt c j f :=
  Ring.pointsTo_blocks (ℓ := wLoc c) wSet wSl_disj wSl_cover f
theorem w_join (f₀ : Buf (Elt F) (wLoc c)) :
    bigSep Finset.univ (fun j : Fin 2 => iprop(∃ f, wAt c j f)) ⊢ (iprop(∃ g, wLoc c ↦{fullShare} g) : sProp 𝕄) :=
  Ring.pointsTo_blocks_join_exists (ℓ := wLoc c) wSet wSl_disj wSl_cover f₀

/-! ## The contents a copy or a store leaves -/

variable (m : (ℓ : Loc nD τ sig) → Buf (Elt F) ℓ)

theorem mine_partner (k : Fin 8) : mine (partner c) k = mine c k := by revert c k; decide

/-- A chunk sent to the partner leaves what its rx is to hold there. -/
theorem land_x (k : Fin 8) (fd : Buf (Elt F) (rxLoc (partner c))) :
    (rxAt (partner c) k fullShare ((rxSl k).view.write (Elt F) fd ((eSl (mine c k)).view.read (Elt F) (eFin m c)) Finset.univ) : sProp 𝕄)
      ⊢ rxAt (partner c) k fullShare (rxFin m (partner c)) := by
  refine Entails.of_eq (pointsTo_congr (write_eq_on (rxSl k).view fd (rxFin m (partner c)) _ (funext fun x => ?_)))
  rw [rxSl_read, eSl_read]
  show eFin m (partner (partner c)) (ix3 (mine (partner c) k) (x 0) (x 1)) = eFin m c (ix3 (mine c k) (x 0) (x 1))
  rw [partner_partner, mine_partner]

/-- A chunk passed on to the neighbor leaves what its ry is to hold there. -/
theorem land_y (k : Fin 8) (fd : Buf (Elt F) (ryLoc (neighbor c))) :
    (ryAt (neighbor c) k fullShare ((rySl k).view.write (Elt F) fd ((rxSl k).view.read (Elt F) (rxFin m c)) Finset.univ) : sProp 𝕄)
      ⊢ ryAt (neighbor c) k fullShare (ryFin m (neighbor c)) := by
  refine Entails.of_eq (pointsTo_congr (write_eq_on (rySl k).view fd (ryFin m (neighbor c)) _ (funext fun x => ?_)))
  rw [rySl_read, rxSl_read]
  show rxFin m (neighbor (neighbor c)) _ = _
  rw [neighbor_neighbor]

/-- A chunk of W fetched into a slot of the double buffer. -/
theorem land_w (s : Fin 2) (j : Fin 16) (fd : Buf (Elt F) (wLoc c)) :
    (wAt c s ((wSl s).view.write (Elt F) fd ((bigSl j).view.read (Elt F) (wIn m c)) Finset.univ) : sProp 𝕄)
      ⊢ wAt c s (wBuf m c j.val) := by
  refine Entails.of_eq (pointsTo_congr (write_eq_on (wSl s).view fd (wBuf m c j.val) _ (funext fun x => ?_)))
  rw [wSl_read, bigSl_read]
  show wIn m c (ix2 _ ⟨(512 * j.val + (x 1).val) % 8192, _⟩) = _
  have h : (x 1).val < 512 := (x 1).isLt
  have := j.isLt
  congr 2
  exact Fin.ext (Nat.mod_eq_of_lt (by omega))

/-- The exponentials of chunk j stored into slot j. -/
theorem land_e (j : Fin 16) (fd : Buf (Elt F) (eLoc c)) :
    (eAt c j fullShare ((eM.access (eRect j)).write (Elt F) fd (k0_pay8 (xv m c) (wChunk m c j.val)) Finset.univ) : sProp 𝕄)
      ⊢ eAt c j fullShare (eFin m c) := by
  refine Entails.of_eq (pointsTo_congr fun i hi => ?_)
  refine write_eq_on (eM.access (eRect j)) fd (eFin m c) _ (funext fun x => ?_) i (by rw [eAcc_set]; exact hi)
  rw [eAcc_read]
  show k0_pay8 (xv m c) (wChunk m c j.val) (ix3 0 (x 1) (x 2)) = _
  have hx : x = ix3 0 (x 1) (x 2) := by
    apply Shape.idx3_ext
    · have h : (x 0).val < 1 := (x 0).isLt
      show (x 0).val = 0; omega
    · rfl
    · rfl
  exact congrArg _ hx.symm

/-- What a load of slot k of rx returns, -/
def rxRow (k : Fin 8) : Vec F S1x512x512 .bf16 := fun i => rxFin m c (ix3 k (i 1) (i 2))
/-- and of ry. -/
def ryRow (k : Fin 8) : Vec F S1x512x512 .bf16 := fun i => ryFin m c (ix3 k (i 1) (i 2))

theorem load_rx (k : Fin 8) : rxM.view.readAt (Elt F) (rRect k) (rxFin m c) = rxRow c m k := funext fun x => rxM_readAt k _ x
theorem load_ry (k : Fin 8) : ryM.view.readAt (Elt F) (rRect k) (ryFin m c) = ryRow c m k := funext fun x => ryM_readAt k _ x
theorem load_w (s : Fin 2) (j : ℕ) : wM.view.readAt (Elt F) (wRect s) (wBuf m c j) = wChunk m c j := by
  funext x
  rw [wM_readAt]
  rfl

end

end Cert.Talk

end
-- ==== Proof.Ops.lean ====
/-
  The operations of the talking call, one lemma each: what each takes and gives back under the protocol. Each is stated for
  any operands equal to the protocol's slots and semaphores, so that it applies to the program's own offset expressions.
-/
module

public import proofs.«01_k».proof.Proof.Slots

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx (ix2 ix3 eq_ix2 eq_ix3)

variable {F : FTy → Type} [FloatOps F]

local notation "𝕄" => MT nD τ sig Unit (Elt F) ℕ UU ℕ

abbrev 𝒱₀ : Variants := Variants.none

variable (m : (ℓ : Loc nD τ sig) → Buf (Elt F) ℓ)

/-- The invariants of all the protocol's cells, at the names the launch allocated them at. -/
def Invs (κ : GSem nD τ sig → ℕ) : sProp 𝕄 :=
  iprop((bigSep Finset.univ fun c : Dev nD => cellInv ER (rd m) (κ (barCell c)) (barCell c))
    ∗ bigSep Finset.univ fun p : Dev nD × Fin 4 × Fin 8 => cellInv ER (rd m) (κ (cell p.1 p.2.1 p.2.2)) (cell p.1 p.2.1 p.2.2))

instance Invs_persistent (κ : GSem nD τ sig → ℕ) : BI.Persistent (Invs m κ) := by unfold Invs; infer_instance

theorem Invs_bar (κ : GSem nD τ sig → ℕ) (c : Dev nD) : Invs m κ ⊢ cellInv ER (rd m) (κ (barCell c)) (barCell c) := by
  unfold Invs
  iintro ⟨H, -⟩
  iapply (show (bigSep Finset.univ fun c : Dev nD => cellInv ER (rd m) (κ (barCell c)) (barCell c)) ⊢ cellInv ER (rd m) (κ (barCell c)) (barCell c)
    from bigSep_elim (Finset.mem_univ c)) $$ H
theorem Invs_cell (κ : GSem nD τ sig → ℕ) (c : Dev nD) (q : Fin 4) (k : Fin 8) :
    Invs m κ ⊢ cellInv ER (rd m) (κ (cell c q k)) (cell c q k) := by
  unfold Invs
  iintro ⟨-, H⟩
  iapply (show (bigSep Finset.univ fun p : Dev nD × Fin 4 × Fin 8 => cellInv ER (rd m) (κ (cell p.1 p.2.1 p.2.2)) (cell p.1 p.2.1 p.2.2))
      ⊢ cellInv ER (rd m) (κ (cell c q k)) (cell c q k) from
    bigSep_elim (Φ := fun p : Dev nD × Fin 4 × Fin 8 => cellInv ER (rd m) (κ (cell p.1 p.2.1 p.2.2)) (cell p.1 p.2.1 p.2.2)) (Finset.mem_univ (c, q, k))) $$ H

/-- What persists through the call: the invariants, the levels, and that the cells the device pays are open. -/
def Cx (κ : GSem nD τ sig → ℕ) (c : Dev nD) : sProp 𝕄 :=
  iprop(Invs m κ ∗ levAts L lv
    ∗ bigSep Finset.univ fun p : Fin 4 × Fin 8 => reached ER (cell (payer p.1 c) p.1 p.2) 0)

instance Cx_persistent (κ : GSem nD τ sig → ℕ) (c : Dev nD) : BI.Persistent (Cx m κ c) := by unfold Cx; infer_instance

theorem Cx_cell (κ : GSem nD τ sig → ℕ) (c d : Dev nD) (q : Fin 4) (k : Fin 8) :
    Cx m κ c ⊢ cellInv ER (rd m) (κ (cell d q k)) (cell d q k) := by
  unfold Cx
  iintro ⟨H, -⟩
  iapply (Invs_cell m κ d q k) $$ H
theorem Cx_lev (κ : GSem nD τ sig → ℕ) (c : Dev nD) : Cx m κ c ⊢ levAts L lv := by
  unfold Cx
  iintro ⟨-, H, -⟩
  iexact H
theorem Cx_reached (κ : GSem nD τ sig → ℕ) (c : Dev nD) (q : Fin 4) (k : Fin 8) :
    Cx m κ c ⊢ reached ER (cell (payer q c) q k) 0 := by
  unfold Cx
  iintro ⟨-, -, H⟩
  iapply (show (bigSep Finset.univ fun p : Fin 4 × Fin 8 => reached ER (cell (payer p.1 c) p.1 p.2) 0) ⊢ (reached ER (cell (payer q c) q k) 0 : sProp 𝕄)
    from bigSep_elim (Φ := fun p : Fin 4 × Fin 8 => (reached ER (cell (payer p.1 c) p.1 p.2) 0 : sProp 𝕄)) (Finset.mem_univ (q, k))) $$ H

/-- The device's obligations, whatever it has waited on. -/
def ow (c : Dev nD) (O : CellTallies nD τ sig Unit) : sProp 𝕄 := iprop(∃ W, owes (c : Thread nD τ) O W)

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Ops

variable {α : Type} (κ : GSem nD τ sig → ℕ) (c : Dev nD)

/-! ## The remote copies and the waits of the protocol -/

/-- A chunk is sent to the partner. -/
theorem wp_send_x (k : Fin 8) {d : Dev nD} {src dst : Memref sig .tc .vmem S512x512 .bf16} {s1 s2 : DmaSem sig}
    (hd : d = partner c) (hs : src = eSl (mine c k)) (hdst : dst = rxSl k) (h1 : s1 = sm 0 k) (h2 : s2 = sm 1 k)
    {hsc : dst.view.ref.isScScratch = false} {hw : src.view.WordExact} {hw' : dst.view.WordExact}
    {ht : DmaTarget.Typed .vmem (.dma s2) (.remote (Dev.tc d) dst (.dma s1) hsc)}
    {kk : PUnit → Prog (TpuEff nD τ sig (Elt F) Λ₀ .tc) α} {Q : α → sProp 𝕄} (O : CellTallies nD τ sig Unit) :
    iprop(Cx m κ c ∗ eAt c (mine c k) fullShare (eFin m c) ∗ (∃ f, rxAt (partner c) k fullShare f)
        ∗ ow c (O + tallyAt (cell (partner c) 1 k) () N)
        ∗ dutyTok ER (cell c 0 k) 0 true ∗ dutyTok ER (cell (partner c) 1 k) 0 true)
      ⊢ iprop(((cred (tallyAt (cell c 0 k) () N) ∗ ow c O) -∗ WP c (kk ⟨⟩) Q)
        -∗ WP c (.op (.enqueueDma src (.remote (Dev.tc d) dst (.dma s1) hsc) (.dma s2) hw hw' ht) kk) Q) := by
  subst hd hs hdst h1 h2
  unfold ow
  iintro ⟨#HC, He, ⟨%f, Hr⟩, ⟨%W, HO⟩, Ht1, Ht2⟩ Hk
  iapply (Rounds.wp_send_pointsTo 𝒱₀ ER (rd m) (c : Thread nD τ) none (c' := (partner c : Thread nD τ))
      (src := eSl (mine c k)) (dst := rxSl k)
      (sS := .dma (sm 0 k)) (sem := .dma (sm 1 k)) (q := fullShare) (fs := eFin m c) (κ₁ := κ (cell c 0 k))
      (κ₂ := κ (cell (partner c) 1 k)) (r₁ := 0) (r₂ := 0) (d₁ := true) (d₂ := true) (fd := f)
      (mem_cell m c 0 k) (mem_cell m (partner c) 1 k)
      () () N rfl (amount_cell m c 0 k true) (amount_cell m (partner c) 1 k true) O rfl (W := W)
      (by rw [payload_cell, pay_0]) (by rw [payload_cell, pay_1]; exact land_x c m k f)) $$ [He Hr HO Ht1 Ht2]
  · isplitr; · iapply (Cx_cell m κ c c 0 k) $$ HC
    isplitr; · iapply (Cx_cell m κ c (partner c) 1 k) $$ HC
    isplitl [He]; · iexact He
    isplitl [Hr]; · iexact Hr
    isplitl [HO]; · iexact HO
    isplitl [Ht1]; · iexact Ht1
    isplitr; · iapply (Cx_reached m κ c 0 k) $$ HC
    isplitl [Ht2]; · iexact Ht2
    iapply (Cx_reached m κ c 1 k) $$ HC
  iintro ⟨Hc, HO⟩
  iapply Hk
  isplitl [Hc]; · iexact Hc
  iexists W; iexact HO

/-- A landed chunk is passed on to the neighbor, half of it kept for reading. -/
theorem wp_send_y (k : Fin 8) {d : Dev nD} {src dst : Memref sig .tc .vmem S512x512 .bf16} {s1 s2 : DmaSem sig}
    (hd : d = neighbor c) (hs : src = rxSl k) (hdst : dst = rySl k) (h1 : s1 = sm 2 k) (h2 : s2 = sm 3 k)
    {hsc : dst.view.ref.isScScratch = false} {hw : src.view.WordExact} {hw' : dst.view.WordExact}
    {ht : DmaTarget.Typed .vmem (.dma s2) (.remote (Dev.tc d) dst (.dma s1) hsc)}
    {kk : PUnit → Prog (TpuEff nD τ sig (Elt F) Λ₀ .tc) α} {Q : α → sProp 𝕄} (O : CellTallies nD τ sig Unit) :
    iprop(Cx m κ c ∗ rxAt c k qL (rxFin m c) ∗ (∃ f, ryAt (neighbor c) k fullShare f)
        ∗ ow c (O + tallyAt (cell (neighbor c) 3 k) () N)
        ∗ dutyTok ER (cell c 2 k) 0 true ∗ dutyTok ER (cell (neighbor c) 3 k) 0 true)
      ⊢ iprop(((cred (tallyAt (cell c 2 k) () N) ∗ ow c O) -∗ WP c (kk ⟨⟩) Q)
        -∗ WP c (.op (.enqueueDma src (.remote (Dev.tc d) dst (.dma s1) hsc) (.dma s2) hw hw' ht) kk) Q) := by
  subst hd hs hdst h1 h2
  unfold ow
  iintro ⟨#HC, He, ⟨%f, Hr⟩, ⟨%W, HO⟩, Ht1, Ht2⟩ Hk
  iapply (Rounds.wp_send_pointsTo 𝒱₀ ER (rd m) (c : Thread nD τ) none (c' := (neighbor c : Thread nD τ))
      (src := rxSl k) (dst := rySl k)
      (sS := .dma (sm 2 k)) (sem := .dma (sm 3 k)) (q := qL) (fs := rxFin m c) (κ₁ := κ (cell c 2 k))
      (κ₂ := κ (cell (neighbor c) 3 k)) (r₁ := 0) (r₂ := 0) (d₁ := true) (d₂ := true) (fd := f)
      (mem_cell m c 2 k) (mem_cell m (neighbor c) 3 k)
      () () N rfl (amount_cell m c 2 k true) (amount_cell m (neighbor c) 3 k true) O rfl (W := W)
      (by rw [payload_cell, pay_2]) (by rw [payload_cell, pay_3]; exact land_y c m k f)) $$ [He Hr HO Ht1 Ht2]
  · isplitr; · iapply (Cx_cell m κ c c 2 k) $$ HC
    isplitr; · iapply (Cx_cell m κ c (neighbor c) 3 k) $$ HC
    isplitl [He]; · iexact He
    isplitl [Hr]; · iexact Hr
    isplitl [HO]; · iexact HO
    isplitl [Ht1]; · iexact Ht1
    isplitr; · iapply (Cx_reached m κ c 2 k) $$ HC
    isplitl [Ht2]; · iexact Ht2
    iapply (Cx_reached m κ c 3 k) $$ HC
  iintro ⟨Hc, HO⟩
  iapply Hk
  isplitl [Hc]; · iexact Hc
  iexists W; iexact HO

/-- A wait for one unit of one of the four arrays: what was promised with it arrives. -/
theorem wp_wait_cell (q : Fin 4) (k : Fin 8) (n : ℕ) {s : DmaSem sig} {src dst : Memref sig .tc .vmem S512x512 .bf16}
    (hs : s = sm q k) (hN : dst.view.dmaCredit = N) (hlv : lv (cell c q k) () ≤ n)
    {hw : src.view.WordExact} {hw' : dst.view.WordExact}
    {kk : PUnit → Prog (TpuEff nD τ sig (Elt F) Λ₀ .tc) α} {Q : α → sProp 𝕄} {O : CellTallies nD τ sig Unit} (hO : Above n O) :
    iprop(Cx m κ c ∗ cred (tallyAt (cell c q k) () N) ∗ ow c O ∗ atPos ER (cell c q k) 0 ∅ 0)
      ⊢ iprop(((ow c O ∗ atPos ER (cell c q k) 1 ∅ 0 ∗ pay m c q k) -∗ WP c (kk ⟨⟩) Q)
        -∗ WP c (.op (.waitDma2 s src dst hw hw') kk) Q) := by
  subst hs
  unfold ow
  iintro ⟨#HC, Hc, ⟨%W, HO⟩, Hat⟩ Hk
  iapply (Rounds.wp_wait_rest_token 𝒱₀ ER (rd m) (c : Thread nD τ) none (κ := κ (cell c q k))
      (wpE_waitDma2_eq 𝒱₀ (c : Thread nD τ) none Set.univ) (Set.mem_univ _) () (O := O) (W := W) (R := 0) (m := 0) (T := ∅)
      ((Nat.zero_add _).trans (hN.trans (expect_cell m c q k).symm))) $$ [Hc HO Hat]
  · isplitr; · iapply (Cx_cell m κ c c q k) $$ HC
    isplitl [Hc]; · rw [hN]; iexact Hc
    isplitl [HO]; · iexact HO
    isplitr
    · iapply (mayWait c (.dma (sm q k)) n hlv hO)
      iapply (Cx_lev m κ c) $$ HC
    iexact Hat
  iintro ⟨HO, Hat, -, Hpay⟩
  ihave Hp := (Entails.of_eq (rest_cell m c q k)) $$ Hpay
  iapply Hk
  isplitl [HO]; · iexists _; iexact HO
  isplitl [Hat]; · iexact Hat
  iexact Hp

/-! ## The double buffer -/

/-- The share of W read into slot s. -/
def qs (s : Fin 2) : PosShare TreeShare := if s = 0 then qL else qR
abbrev bigSet (j : Fin 16) : Finset S1024x8192.Idx := (bigSl j).view.set
abbrev NW : ℕ := (wSl 0).view.dmaCredit

/-- Slot s holds chunk j and nothing is on its way into it. -/
def Full (s : Fin 2) (j : ℕ) : sProp 𝕄 :=
  iprop(wAt c s (wBuf m c j) ∗ (bigLoc c ↦{qs s} wIn m c) ∗ semVal ((c : Thread nD τ), .dma (wsm s)) 0)
/-- Slot s holds anything and nothing is on its way into it. -/
def Idle (s : Fin 2) : sProp 𝕄 :=
  iprop((∃ f, wAt c s f) ∗ (bigLoc c ↦{qs s} wIn m c) ∗ semVal ((c : Thread nD τ), .dma (wsm s)) 0)
/-- Chunk j is on its way into slot s. -/
def Fly (s : Fin 2) (j : Fin 16) : sProp 𝕄 :=
  iprop(Flight EC (c : Thread nD τ) (.dma (wsm s)) () NW iprop(wAt c s (wBuf m c j.val) ∗ (bigLoc c ↦[bigSet j]{qs s} wIn m c))
    ∗ (bigLoc c ↦[Finset.univ \ bigSet j]{qs s} wIn m c))

theorem Full_Idle (s : Fin 2) (j : ℕ) : Full m c s j ⊢ Idle m c s := by
  unfold Full Idle
  iintro ⟨H, H2⟩
  isplitl [H]; · iexists _; iexact H
  iexact H2

theorem big_join (s : Fin 2) (j : Fin 16) :
    iprop((bigLoc c ↦[bigSet j]{qs s} wIn m c) ∗ (bigLoc c ↦[Finset.univ \ bigSet j]{qs s} wIn m c)) ⊢ (bigLoc c ↦{qs s} wIn m c : sProp 𝕄) :=
  (pointsTo_split_subset (Finset.subset_univ (bigSet j))).2

/-- A fetch of chunk j into slot s starts. -/
theorem wp_fetch (s : Fin 2) (j : Fin 16) {src : Memref sig .tc .hbm S1024x512 .f32} {dst : Memref sig .tc .vmem S1024x512 .f32} {t : DmaSem sig}
    (hs : src = bigSl j) (hdst : dst = wSl s) (ht : t = wsm s)
    {hw : src.view.WordExact} {hw' : dst.view.WordExact}
    {hty : DmaTarget.Typed (nD := nD) (p := (c : Thread nD τ).2) .hbm (.dma t) (.here dst)}
    {kk : PUnit → Prog (TpuEff nD τ sig (Elt F) Λ₀ .tc) α} {Q : α → sProp 𝕄} :
    (Idle m c s : sProp 𝕄) ⊢ iprop((Fly m c s j -∗ WP c (kk ⟨⟩) Q)
        -∗ WP c (.op (.enqueueDma src (.here dst) (.dma t) hw hw' hty) kk) Q) := by
  subst hs hdst ht
  unfold Idle Fly
  iintro ⟨⟨%f, Hw⟩, Hb, Hv⟩ Hk
  ihave Hb' := (pointsTo_split_subset (Finset.subset_univ (bigSet j))) $$ Hb
  icases Hb' with ⟨Hb1, Hb2⟩
  iapply (Transfers.wp_dmaLocal EC 𝒱₀ (c : Thread nD τ) none (src := bigSl j) (dst := wSl s) (sm := .dma (wsm s)) (q := qs s) (fs := wIn m c)
    (Sd := (wSl s).view.set) (fd := f) () NW rfl (View.dmaCredit_pos _ (by decide)) (Finset.Subset.refl _)) $$ [Hw Hb1 Hv]
  · isplitl [Hb1]; · iexact Hb1
    isplitl [Hw]; · iexact Hw
    iexact Hv
  iintro Hf
  iapply Hk
  isplitl [Hf]
  · iapply (Transfers.Flight_mono EC (c : Thread nD τ) (sep_mono_left (land_w c m s j f))) $$ Hf
  iexact Hb2

/-- A wait for the chunk on its way into slot s. -/
theorem wp_fetched (s : Fin 2) (j : Fin 16) {src : Memref sig .tc .hbm S1024x512 .f32} {dst : Memref sig .tc .vmem S1024x512 .f32} {t : DmaSem sig}
    (ht : t = wsm s) (hdst : dst = wSl s)
    {hw : src.view.WordExact} {hw' : dst.view.WordExact}
    {kk : PUnit → Prog (TpuEff nD τ sig (Elt F) Λ₀ .tc) α} {Q : α → sProp 𝕄} {O : CellTallies nD τ sig Unit} (hO : Above 0 O) :
    iprop(Cx m κ c ∗ Fly m c s j ∗ ow c O) ⊢ iprop(((Full m c s j.val ∗ ow c O) -∗ WP c (kk ⟨⟩) Q)
        -∗ WP c (.op (.waitDma2 t src dst hw hw') kk) Q) := by
  subst ht hdst
  unfold Full Fly ow
  iintro ⟨#HC, ⟨Hf, Hb2⟩, ⟨%W, HO⟩⟩ Hk
  iapply (Transfers.wp_waitLocalO EC 𝒱₀ (c : Thread nD τ) none () rfl (O := O) (W := W)) $$ [Hf HO]
  · isplitl [Hf]; · iexact Hf
    isplitl [HO]; · iexact HO
    iapply (mayWait c (.dma (wsm s)) 0 (lv_w c s).le hO)
    iapply (Cx_lev m κ c) $$ HC
  iintro ⟨⟨Hw, Hb1⟩, Hv, HO⟩
  iapply Hk
  isplitl [Hw Hb1 Hb2 Hv]
  · isplitl [Hw]; · iexact Hw
    isplitl [Hb1 Hb2]
    · iapply (big_join m c s j) $$ [Hb1 Hb2]
      isplitl [Hb1]; · iexact Hb1
      iexact Hb2
    iexact Hv
  iexists _; iexact HO

/-- A load of slot s of the double buffer. -/
theorem wp_load_w (s : Fin 2) (j : ℕ) {off : Fin 3 → Nat} (hoff : off = ![s.val, 0, 0]) {inb}
    {hl : wM.view.LoadsAt (Rect.unit (s := S2x1024x512) off S1x1024x512.size inb).toLoadRect}
    {kk : (S1x1024x512.Idx → Elt F .f32) → Prog (TpuEff nD τ sig (Elt F) Λ₀ .tc) α} {Q : α → sProp 𝕄} :
    (Full m c s j : sProp 𝕄) ⊢ iprop((Full m c s j -∗ WP c (kk (wChunk m c j)) Q)
        -∗ WP c (.op (.load wM (Rect.unit (s := S2x1024x512) off S1x1024x512.size inb).toLoadRect hl) kk) Q) := by
  subst hoff
  unfold Full
  iintro ⟨Hw, H2⟩ Hk
  iapply (wp_load 𝒱₀ (c : Thread nD τ) none Set.univ (m := wM) (S := (wSl s).view.set) (q := fullShare) (f := wBuf m c j)
    (by exact (wM_setOn s).subset)) $$ Hw
  iintro Hw
  rw [load_w]
  iapply Hk
  isplitl [Hw]; · iexact Hw
  iexact H2

/-! ## Loads and stores of the slots -/

/-- A load of slot j of the 16 chunks, its value not used. -/
theorem wp_load_e (j : Fin 16) {off : Fin 3 → Nat} (hoff : off = ![j.val, 0, 0]) {inb}
    {hl : eM.view.LoadsAt (Rect.unit (s := S16x512x512) off S1x512x512.size inb).toLoadRect}
    {kk : (S1x512x512.Idx → Elt F .bf16) → Prog (TpuEff nD τ sig (Elt F) Λ₀ .tc) α} {Q : α → sProp 𝕄} (f : Buf (Elt F) (eLoc c)) :
    (eAt c j fullShare f : sProp 𝕄) ⊢ iprop((∀ v, eAt c j fullShare f -∗ WP c (kk v) Q)
        -∗ WP c (.op (.load eM (Rect.unit (s := S16x512x512) off S1x512x512.size inb).toLoadRect hl) kk) Q) := by
  subst hoff
  iintro Hw Hk
  iapply (wp_load 𝒱₀ (c : Thread nD τ) none Set.univ (m := eM) (S := (eSl j).view.set) (q := fullShare) (f := f)
    (by exact (eM_setOn j).subset)) $$ Hw
  iintro Hw
  iapply Hk $$ Hw

/-- The exponentials of chunk j are stored into slot j. -/
theorem wp_store_e (j : Fin 16) {off : Fin 3 → Nat} (hoff : off = ![j.val, 0, 0]) {inb} {w : S1x512x512.Idx → Elt F .bf16}
    (hw : w = k0_pay8 (xv m c) (wChunk m c j.val))
    {hx : (eM.access (Rect.unit (s := S16x512x512) off S1x512x512.size inb)).Stores Finset.univ} {hm}
    {kk : PUnit → Prog (TpuEff nD τ sig (Elt F) Λ₀ .tc) α} {Q : α → sProp 𝕄} (f : Buf (Elt F) (eLoc c)) :
    (eAt c j fullShare f : sProp 𝕄) ⊢ iprop((eAt c j fullShare (eFin m c) -∗ WP c (kk ⟨⟩) Q)
        -∗ WP c (.op (.store eM (Rect.unit (s := S16x512x512) off S1x512x512.size inb) w Finset.univ hx hm) kk) Q) := by
  subst hoff hw
  iintro Hw Hk
  iapply (wp_store 𝒱₀ (c : Thread nD τ) none Set.univ (m := eM) (r := eRect j) (S := (eSl j).view.set) (f := f)
    (by exact (eAcc_set j).subset)) $$ Hw
  iintro Hw
  iapply Hk
  iapply (land_e c m j f) $$ Hw

/-- A load of slot k of rx, at any share, -/
theorem wp_load_rx (k : Fin 8) (q : PosShare TreeShare) {off : Fin 3 → Nat} (hoff : off = ![k.val, 0, 0]) {inb}
    {hl : rxM.view.LoadsAt (Rect.unit (s := S8x512x512) off S1x512x512.size inb).toLoadRect}
    {kk : (S1x512x512.Idx → Elt F .bf16) → Prog (TpuEff nD τ sig (Elt F) Λ₀ .tc) α} {Q : α → sProp 𝕄} :
    (rxAt c k q (rxFin m c) : sProp 𝕄) ⊢ iprop((rxAt c k q (rxFin m c) -∗ WP c (kk (rxRow c m k)) Q)
        -∗ WP c (.op (.load rxM (Rect.unit (s := S8x512x512) off S1x512x512.size inb).toLoadRect hl) kk) Q) := by
  subst hoff
  iintro Hw Hk
  iapply (wp_load 𝒱₀ (c : Thread nD τ) none Set.univ (m := rxM) (S := (rxSl k).view.set) (q := q) (f := rxFin m c)
    (by exact (rxM_setOn k).subset)) $$ Hw
  iintro Hw
  rw [load_rx]
  iapply Hk $$ Hw
/-- and of ry. -/
theorem wp_load_ry (k : Fin 8) {off : Fin 3 → Nat} (hoff : off = ![k.val, 0, 0]) {inb}
    {hl : ryM.view.LoadsAt (Rect.unit (s := S8x512x512) off S1x512x512.size inb).toLoadRect}
    {kk : (S1x512x512.Idx → Elt F .bf16) → Prog (TpuEff nD τ sig (Elt F) Λ₀ .tc) α} {Q : α → sProp 𝕄} :
    (ryAt c k fullShare (ryFin m c) : sProp 𝕄) ⊢ iprop((ryAt c k fullShare (ryFin m c) -∗ WP c (kk (ryRow c m k)) Q)
        -∗ WP c (.op (.load ryM (Rect.unit (s := S8x512x512) off S1x512x512.size inb).toLoadRect hl) kk) Q) := by
  subst hoff
  iintro Hw Hk
  iapply (wp_load 𝒱₀ (c : Thread nD τ) none Set.univ (m := ryM) (S := (rySl k).view.set) (q := fullShare) (f := ryFin m c)
    (by exact (ryM_setOn k).subset)) $$ Hw
  iintro Hw
  rw [load_ry]
  iapply Hk $$ Hw

end Ops

/-! ## The program's operands are the slots and the semaphores -/

theorem eSl_of {j : Fin 16} {off : Fin 3 → Nat} (h : off = ![j.val, 0, 0]) {inb} :
    (eM.slice (Rect.unit (s := S16x512x512) off S1x512x512.size inb) (fun _ => rfl)).squeeze S512x512 squeezes_S1x512x512_S512x512 = eSl j := by
  subst h; rfl
theorem rxSl_of {j : Fin 8} {off : Fin 3 → Nat} (h : off = ![j.val, 0, 0]) {inb} :
    (rxM.slice (Rect.unit (s := S8x512x512) off S1x512x512.size inb) (fun _ => rfl)).squeeze S512x512 squeezes_S1x512x512_S512x512 = rxSl j := by
  subst h; rfl
theorem rySl_of {j : Fin 8} {off : Fin 3 → Nat} (h : off = ![j.val, 0, 0]) {inb} :
    (ryM.slice (Rect.unit (s := S8x512x512) off S1x512x512.size inb) (fun _ => rfl)).squeeze S512x512 squeezes_S1x512x512_S512x512 = rySl j := by
  subst h; rfl
theorem wSl_of {j : Fin 2} {off : Fin 3 → Nat} (h : off = ![j.val, 0, 0]) {inb} :
    (wM.slice (Rect.unit (s := S2x1024x512) off S1x1024x512.size inb) (fun _ => rfl)).squeeze S1024x512 squeezes_S1x1024x512_S1024x512 = wSl j := by
  subst h; rfl
theorem bigSl_of {j : Fin 16} {off : Fin 2 → Nat} (h : off = ![0, 512 * j.val]) {inb} :
    bigM.slice (Rect.unit (s := S1024x8192) off S1024x512.size inb) (fun _ => rfl) = bigSl j := by
  subst h; rfl

theorem sem0_of {k : Fin 8} {off : Fin 1 → Nat} (h : off = ![k.val]) {inb} :
    ((cc0_scratch2.slice (Rect.unit (s := S8) off S1.size inb)).squeeze S_ squeezes_S1_S_).sem = sm 0 k := by
  subst h; revert k; decide
theorem sem1_of {k : Fin 8} {off : Fin 1 → Nat} (h : off = ![k.val]) {inb} :
    ((cc0_scratch3.slice (Rect.unit (s := S8) off S1.size inb)).squeeze S_ squeezes_S1_S_).sem = sm 1 k := by
  subst h; revert k; decide
theorem sem2_of {k : Fin 8} {off : Fin 1 → Nat} (h : off = ![k.val]) {inb} :
    ((cc0_scratch4.slice (Rect.unit (s := S8) off S1.size inb)).squeeze S_ squeezes_S1_S_).sem = sm 2 k := by
  subst h; revert k; decide
theorem sem3_of {k : Fin 8} {off : Fin 1 → Nat} (h : off = ![k.val]) {inb} :
    ((cc0_scratch5.slice (Rect.unit (s := S8) off S1.size inb)).squeeze S_ squeezes_S1_S_).sem = sm 3 k := by
  subst h; revert k; decide
theorem wsem_of {s : Fin 2} {off : Fin 1 → Nat} (h : off = ![s.val]) {inb} :
    ((cc0_scratch1.slice (Rect.unit (s := S2) off S1.size inb)).squeeze S_ squeezes_S1_S_).sem = wsm s := by
  subst h; revert s; decide

end Cert.Talk

end
-- ==== Proof.Trips.lean ====
/-
  The four loops of the talking call, one trip each: what is held before and after a trip.
-/
module

public import proofs.«01_k».proof.Proof.Ops

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## A family done up to k -/

/-- The first k of eight at A, the rest at B. -/
def upTo (A B : Fin 8 → sProp 𝕄) (k : ℕ) : sProp 𝕄 := bigSep Finset.univ fun j : Fin 8 => if j.val < k then A j else B j

theorem upTo_zero (A B : Fin 8 → sProp 𝕄) : upTo A B 0 = bigSep Finset.univ B := by
  unfold upTo
  exact bigSep_congr fun j _ => if_neg (Nat.not_lt_zero _)
theorem upTo_all (A B : Fin 8 → sProp 𝕄) : upTo A B 8 = bigSep Finset.univ A := by
  unfold upTo
  exact bigSep_congr fun j _ => if_pos j.isLt
/-- One of the family is taken at B and given back at A. -/
theorem upTo_take (A B : Fin 8 → sProp 𝕄) (k : Fin 8) :
    upTo A B k.val ⊢ iprop(B k ∗ (A k -∗ upTo A B (k.val + 1))) := by
  unfold upTo
  have e1 : (bigSep Finset.univ fun j : Fin 8 => if j.val < k.val then A j else B j)
      = iprop(B k ∗ bigSep (Finset.univ.erase k) fun j : Fin 8 => if j.val < k.val then A j else B j) := by
    rw [bigSep_erase (Finset.mem_univ k), if_neg (Nat.lt_irrefl _)]
    rfl
  have e2 : (bigSep Finset.univ fun j : Fin 8 => if j.val < k.val + 1 then A j else B j)
      = iprop(A k ∗ bigSep (Finset.univ.erase k) fun j : Fin 8 => if j.val < k.val then A j else B j) := by
    rw [bigSep_erase (Finset.mem_univ k), if_pos (Nat.lt_succ_self _)]
    refine congrArg (fun R => BI.sep (A k) R) (bigSep_congr fun j hj => ?_)
    have hne : j.val ≠ k.val := fun h => Finset.ne_of_mem_erase hj (Fin.ext h)
    by_cases h : j.val < k.val
    · rw [if_pos h, if_pos (by omega)]
    · rw [if_neg h, if_neg (by omega)]
  rw [e1, e2]
  iintro ⟨Hb, Hr⟩
  isplitl [Hb]; · iexact Hb
  iintro Ha
  isplitl [Ha]; · iexact Ha
  iexact Hr

theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p fun x => WP c (k x) Q := wp_bind ..
theorem WP_ret (c : Dev nD) {α : Type} (x : α) (Q : α → sProp 𝕄) :
    WP c (.ret x) Q = iprop(|={Set.univ}=> Q x) := wp_ret ..

/-! ## The steps of the double buffer -/

/-- The slot of step n, -/
def sl (n : ℕ) : Fin 2 := ⟨n % 2, Nat.mod_lt _ (by decide)⟩
/-- and its chunk: the device's own eight first, then the other eight. -/
def ck (c : Dev nD) (n : ℕ) : Fin 16 := ⟨(if n < 8 then 8 * (c.val % 2) + n else n - 8 * (c.val % 2)) % 16, Nat.mod_lt _ (by decide)⟩

theorem sl_two (n : ℕ) : sl (n + 1 + 1) = sl n := Fin.ext (by show (n + 1 + 1) % 2 = n % 2; omega)

variable (m : (ℓ : Loc nD τ sig) → Buf (Elt F) ℓ)

/-- Before step n: its chunk is on its way, the other slot is idle. After the last step both are idle. -/
def Stg (c : Dev nD) (n : ℕ) : sProp 𝕄 :=
  if n < 16 then iprop(Fly m c (sl n) (ck c n) ∗ Idle m c (sl (n + 1))) else iprop(Idle m c (sl n) ∗ Idle m c (sl (n + 1)))

theorem Stg_lt (c : Dev nD) {n : ℕ} (h : n < 16) : Stg m c n = iprop(Fly m c (sl n) (ck c n) ∗ Idle m c (sl (n + 1))) := if_pos h
theorem Stg_16 (c : Dev nD) : Stg m c 16 = iprop(Idle m c 0 ∗ Idle m c 1) := if_neg (by decide)

abbrev tn1 (k : Fin k0_t1_loop.trips) : Fin 8 := ⟨k.val, Nat.lt_of_lt_of_le k.isLt (by decide)⟩
abbrev tn2 (k : Fin k0_t2_loop.trips) : Fin 8 := ⟨k.val, Nat.lt_of_lt_of_le k.isLt (by decide)⟩
abbrev tn3 (k : Fin k0_t3_loop.trips) : Fin 8 := ⟨k.val, Nat.lt_of_lt_of_le k.isLt (by decide)⟩
abbrev tn4 (k : Fin k0_t4_loop.trips) : Fin 8 := ⟨k.val, Nat.lt_of_lt_of_le k.isLt (by decide)⟩

theorem cond1 (k : Fin k0_t1_loop.trips) : k0_cond1 k = 1#1 := by revert k; decide +kernel
theorem cond2 (k : Fin k0_t2_loop.trips) : k0_cond2 k = 1#1 ↔ 8 + k.val + 1 < 16 := by revert k; decide +kernel

theorem o4 : ∀ (c : Dev nD) (k : Fin k0_t1_loop.trips), k0_off4 c k = ![(sl (k.val + 1)).val] := by decide +kernel
theorem o5 : ∀ (c : Dev nD) (k : Fin k0_t1_loop.trips), k0_off5 c k = ![(sl (k.val + 1)).val, 0, 0] := by decide +kernel
theorem o6 : ∀ (c : Dev nD) (k : Fin k0_t1_loop.trips), k0_off6 c k = ![0, 512 * (ck c (k.val + 1)).val] := by decide +kernel
theorem o7 : ∀ (c : Dev nD) (k : Fin k0_t1_loop.trips), k0_off7 c k = ![(sl k.val).val] := by decide +kernel
theorem o8 : ∀ (c : Dev nD) (k : Fin k0_t1_loop.trips), k0_off8 c k = ![(sl k.val).val, 0, 0] := by decide +kernel
theorem o10 : ∀ (c : Dev nD) (k : Fin k0_t1_loop.trips), k0_off10 c k = ![(sl k.val).val, 0, 0] := by decide +kernel
theorem o11 : ∀ (c : Dev nD) (k : Fin k0_t1_loop.trips), k0_off11 c k = ![(mine c (tn1 k)).val, 0, 0] := by decide +kernel
theorem o12 : ∀ (k : Fin k0_t1_loop.trips), k0_off12 k = ![(tn1 k).val] := by decide +kernel
theorem o13 : ∀ (k : Fin k0_t1_loop.trips), k0_off13 k = ![(tn1 k).val, 0, 0] := by decide +kernel
theorem o14 : ∀ (c : Dev nD) (k : Fin k0_t1_loop.trips), k0_off14 c k = ![(mine c (tn1 k)).val, 0, 0] := by decide +kernel
theorem o15 : ∀ (c : Dev nD) (k : Fin k0_t2_loop.trips), k0_off15 c k = ![(sl (8 + k.val + 1)).val] := by decide +kernel
theorem o16 : ∀ (c : Dev nD) (k : Fin k0_t2_loop.trips), k0_off16 c k = ![(sl (8 + k.val + 1)).val, 0, 0] := by decide +kernel
theorem o17 : ∀ (c : Dev nD) (k : Fin k0_t2_loop.trips), k0_cond2 k = 1#1 → k0_off17 c k = ![0, 512 * (ck c (8 + k.val + 1)).val] := by decide +kernel
theorem o18 : ∀ (c : Dev nD) (k : Fin k0_t2_loop.trips), k0_off18 c k = ![(sl (8 + k.val)).val] := by decide +kernel
theorem o19 : ∀ (c : Dev nD) (k : Fin k0_t2_loop.trips), k0_off19 c k = ![(sl (8 + k.val)).val, 0, 0] := by decide +kernel
theorem o21 : ∀ (c : Dev nD) (k : Fin k0_t2_loop.trips), k0_off21 c k = ![(sl (8 + k.val)).val, 0, 0] := by decide +kernel
theorem o22 : ∀ (c : Dev nD) (k : Fin k0_t2_loop.trips), k0_off22 c k = ![(other c (tn2 k)).val, 0, 0] := by decide +kernel
theorem o23 : ∀ (k : Fin k0_t2_loop.trips), k0_off23 k = ![(tn2 k).val] := by decide +kernel
theorem o24 : ∀ (k : Fin k0_t2_loop.trips), k0_off24 k = ![(tn2 k).val, 0, 0] := by decide +kernel
theorem o26 : ∀ (k : Fin k0_t2_loop.trips), k0_off26 k = ![(tn2 k).val, 0, 0] := by decide +kernel
theorem o27 : ∀ (k : Fin k0_t3_loop.trips), k0_off27 k = ![(tn3 k).val] := by decide +kernel
theorem o29 : ∀ (k : Fin k0_t3_loop.trips), k0_off29 k = ![(tn3 k).val, 0, 0] := by decide +kernel
theorem o30 : ∀ (k : Fin k0_t4_loop.trips), k0_off30 k = ![(tn4 k).val] := by decide +kernel
theorem o28 : ∀ (k : Fin k0_t3_loop.trips), k0_off28 k = ![(tn3 k).val, 0, 0] := by decide +kernel
theorem o31 : ∀ (c : Dev nD) (k : Fin k0_t4_loop.trips), k0_off31 c k = ![(mine c (tn4 k)).val, 0, 0] := by decide +kernel
theorem o32 : ∀ (k : Fin k0_t4_loop.trips), k0_off32 k = ![(tn4 k).val, 0, 0] := by decide +kernel
theorem ck_mine : ∀ (c : Dev nD) (k : Fin k0_t1_loop.trips), ck c k.val = mine c (tn1 k) := by decide +kernel
theorem ck_other : ∀ (c : Dev nD) (k : Fin k0_t2_loop.trips), ck c (8 + k.val) = other c (tn2 k) := by decide +kernel
theorem dev3 (c : Dev nD) : (⟨k0_dev3 c, k0_dev3_lt c⟩ : Dev nD) = partner c := by revert c; decide +kernel
theorem dev4 (c : Dev nD) : (⟨k0_dev4 c, k0_dev4_lt c⟩ : Dev nD) = neighbor c := by revert c; decide +kernel

section

variable (κ : GSem nD τ sig → ℕ) (c : Dev nD)
variable (a0 : Memref sig .tc .vmem S512x1024 .f32) (h0 : a0.IsWhole) (h1 : bigM.IsWhole) (h2 : eM.IsWhole) (h3 : rxM.IsWhole)
  (h4 : ryM.IsWhole) (a5 : Memref sig .tc .vmem S512x128 .f32) (h5 : a5.IsWhole) (h6 : wM.IsWhole) (v5 v6 : BitVec 32)

/-! ## The first loop -/

/-- The partial sums of the device's own chunks sent first. -/
def acc1 : ℕ → FVec F S512x1 .f32
  | 0 => k0_pay1
  | k + 1 => k0_pay2 (acc1 k) (k0_pay7 (xv m c) (wChunk m c (ck c k).val))

theorem part1_run (k : Fin k0_t1_loop.trips) (z1 z2 : BitVec 32) {O : CellTallies nD τ sig Unit} (hO : Above 0 O)
    (Q : (Σ' (_ : FVec F S512x512 .f32) (_ : BitVec 32), BitVec 32) → sProp 𝕄) :
    iprop(Cx m κ c ∗ Stg m c k.val ∗ ow c O ∗ (∃ f, eAt c (mine c (tn1 k)) fullShare f)
        ∗ (∀ v w, (Stg m c (k.val + 1) ∗ ow c O ∗ eAt c (mine c (tn1 k)) fullShare (eFin m c))
            -∗ Q ⟨k0_pay7 (xv m c) (wChunk m c (ck c k.val).val), v, w⟩))
      ⊢ WP c (k0_part1 a0 h0 bigM h1 eM h2 rxM h3 ryM h4 a5 h5 wM h6 cc0_scratch1 cc0_scratch2 cc0_scratch3 cc0_scratch4 cc0_scratch5
          c v5 v6 (xv m c) z1 z2 k) Q := by
  have hk : k.val < 8 := (tn1 k).isLt
  rw [k0_part1_eq_skeleton]
  unfold k0_part1_skel
  rw [dif_pos (cond1 k)]
  simp only [Prog.lift, Prog.bind_op, Prog.bind_ret, Prog.pure_eq_ret]
  rw [Stg_lt m c (show k.val < 16 by omega), Stg_lt m c (show k.val + 1 < 16 by omega), sl_two]
  iintro ⟨#HC, ⟨Hf, Hi⟩, HO, ⟨%f, He⟩, Hk⟩
  iapply (wp_fetch m c (sl (k.val + 1)) (ck c (k.val + 1)) (bigSl_of (o6 c k)) (wSl_of (o5 c k)) (wsem_of (o4 c k))) $$ Hi
  iintro Hf2
  iapply (wp_fetched m κ c (sl k.val) (ck c k.val) (wsem_of (o7 c k)) (wSl_of (o8 c k)) hO) $$ [Hf HO]
  · isplitr; · iexact HC
    isplitl [Hf] <;> iassumption
  iintro ⟨Hw, HO⟩
  iapply (wp_load_w m c (sl k.val) (ck c k.val).val (o10 c k)) $$ Hw
  iintro Hw
  iapply (wp_load_e c (mine c (tn1 k)) (o11 c k) f) $$ He
  iintro %v He
  iapply (wp_store_e m c (mine c (tn1 k)) (o11 c k) (by rw [ck_mine]) f) $$ He
  iintro He
  rw [WP_ret]
  imodintro
  ihave Hi := (Full_Idle m c (sl k.val) (ck c k.val).val) $$ Hw
  iapply Hk
  isplitl [Hf2 Hi]
  · isplitl [Hf2] <;> iassumption
  isplitl [HO] <;> iassumption

def A1 (j : Fin 8) : sProp 𝕄 := cred (tallyAt (cell c 0 j) () N)
def B1 (j : Fin 8) : sProp 𝕄 :=
  iprop((∃ f, eAt c (mine c j) fullShare f) ∗ (∃ f, rxAt (partner c) j fullShare f)
    ∗ dutyTok ER (cell c 0 j) 0 true ∗ dutyTok ER (cell (partner c) 1 j) 0 true)

/-- Before trip k of the first loop. -/
def I1 (k : ℕ) (acc : FVec F S512x1 .f32) : sProp 𝕄 :=
  iprop(Cx m κ c ∗ ⌜acc = acc1 m c k⌝ ∗ Stg m c k ∗ ow c (owY c 0 + owX c k) ∗ upTo (A1 c) (B1 c) k)

theorem t1_trip (k : Fin k0_t1_loop.trips) (acc : FVec F S512x1 .f32) :
    I1 m κ c k.val acc
      ⊢ WP c (k0_t1_body a0 h0 bigM h1 eM h2 rxM h3 ryM h4 a5 h5 wM h6 cc0_scratch1 cc0_scratch2 cc0_scratch3 cc0_scratch4 cc0_scratch5
          c v5 v6 (xv m c) k acc) (I1 m κ c (k.val + 1)) := by
  unfold I1 k0_t1_body
  iintro ⟨#HC, %hacc, Hs, HO, Hu⟩
  subst hacc
  ihave Hu' := (upTo_take (A1 c) (B1 c) (tn1 k)) $$ Hu
  icases Hu' with ⟨HB, Hu⟩
  unfold B1
  icases HB with ⟨He, Hr, Ht1, Ht2⟩
  simp only [Prog.lift, Prog.bind_op, Prog.bind_ret, Prog.pure_eq_ret]
  rw [WP_bind]
  iapply (part1_run m κ c a0 h0 h1 h2 h3 h4 a5 h5 h6 v5 v6 k _ _ (O := owY c 0 + owX c k.val)
    (above_add (above_owY (by decide) c 0) (above_owX (by decide) c k.val)) _)
  isplitr; · iexact HC
  isplitl [Hs]; · iexact Hs
  isplitl [HO]; · iexact HO
  isplitl [He]; · iexact He
  iintro %v %w ⟨Hs, HO, He⟩
  rw [show owX c k.val = owX c (k.val + 1) + tallyAt (cell (partner c) 1 (tn1 k)) () N from owX_step c (tn1 k), ← add_assoc]
  iapply (wp_send_x m κ c (tn1 k) (dev3 c) (eSl_of (o14 c k)) (rxSl_of (o13 k)) (sem0_of (o12 k)) (sem1_of (o12 k))
    (owY c 0 + owX c (k.val + 1))) $$ [He Hr HO Ht1 Ht2]
  · isplitr; · iexact HC
    isplitl [He]; · iexact He
    isplitl [Hr]; · iexact Hr
    isplitl [HO]; · iexact HO
    isplitl [Ht1] <;> iassumption
  iintro ⟨Hc, HO⟩
  rw [WP_ret]
  imodintro
  isplitr; · iexact HC
  isplitr; · ipureintro; rfl
  isplitl [Hs]; · iexact Hs
  isplitl [HO]; · iexact HO
  iapply Hu
  unfold A1
  iexact Hc

/-! ## The second loop -/

/-- The partial sums once the other half's chunks are added, -/
def acc2 : ℕ → FVec F S512x1 .f32
  | 0 => acc1 m c 8
  | k + 1 => k0_pay11 (xv m c) (acc2 k) (wChunk m c (ck c (8 + k)).val)
/-- the partial sums of the partner's chunks, -/
def accp : ℕ → FVec F S512x1 .f32
  | 0 => k0_pay3
  | k + 1 => k0_pay4 (accp k) (rxRow c m ⟨k % 8, Nat.mod_lt _ (by decide)⟩)
/-- and of those with the chunks the neighbor passed on. -/
def accq : ℕ → FVec F S512x1 .f32
  | 0 => accp m c 8
  | k + 1 => k0_pay5 (accq k) (ryRow c m ⟨k % 8, Nat.mod_lt _ (by decide)⟩)

theorem accp_succ (k : Fin 8) : accp m c (k.val + 1) = k0_pay4 (accp m c k.val) (rxRow c m k) := by
  show k0_pay4 _ (rxRow c m _) = _
  congr 2
  exact Fin.ext (Nat.mod_eq_of_lt k.isLt)
theorem accq_succ (k : Fin 8) : accq m c (k.val + 1) = k0_pay5 (accq m c k.val) (ryRow c m k) := by
  show k0_pay5 _ (ryRow c m _) = _
  congr 2
  exact Fin.ext (Nat.mod_eq_of_lt k.isLt)

/-- The two shares of a received slot: one is sent on, one is read meanwhile. -/
theorem rx_halves (k : Fin 8) (f : Buf (Elt F) (rxLoc c)) :
    (rxAt c k fullShare f : sProp 𝕄) ⊢ iprop(rxAt c k qL f ∗ rxAt c k qR f) := by
  unfold rxAt
  exact (pointsTo_share (PosShare.mem_left_op_right fullShare)).1

theorem part2_run (k : Fin k0_t2_loop.trips) (acc : FVec F S512x1 .f32) (z1 z2 : BitVec 32) {O : CellTallies nD τ sig Unit} (hO : Above 0 O)
    (Q : (Σ' (_ : BitVec 32), FVec F S512x1 .f32) → sProp 𝕄) :
    iprop(Cx m κ c ∗ Stg m c (8 + k.val) ∗ ow c O ∗ (∃ f, eAt c (other c (tn2 k)) fullShare f)
        ∗ (∀ v, (Stg m c (8 + k.val + 1) ∗ ow c O ∗ eAt c (other c (tn2 k)) fullShare (eFin m c))
            -∗ Q ⟨v, k0_pay11 (xv m c) acc (wChunk m c (ck c (8 + k.val)).val)⟩))
      ⊢ WP c (k0_part2 a0 h0 bigM h1 eM h2 rxM h3 ryM h4 a5 h5 wM h6 cc0_scratch1 cc0_scratch2 cc0_scratch3 cc0_scratch4 cc0_scratch5
          c v5 (xv m c) z1 z2 k acc) Q := by
  have hk : k.val < 8 := (tn2 k).isLt
  rw [k0_part2_eq_skeleton]
  unfold k0_part2_skel
  rw [Stg_lt m c (show 8 + k.val < 16 by omega)]
  have rest : ∀ S : sProp 𝕄, iprop(Cx m κ c ∗ Fly m c (sl (8 + k.val)) (ck c (8 + k.val)) ∗ S ∗ ow c O
        ∗ (∃ f, eAt c (other c (tn2 k)) fullShare f)
        ∗ (∀ v, ((S ∗ Idle m c (sl (8 + k.val))) ∗ ow c O ∗ eAt c (other c (tn2 k)) fullShare (eFin m c))
            -∗ Q ⟨v, k0_pay11 (xv m c) acc (wChunk m c (ck c (8 + k.val)).val)⟩))
      ⊢ WP c (.op (.waitDma2 ((cc0_scratch1.slice (Rect.unit (s := S2) (k0_off18 c k) S1.size (k0_off18_inb c k))).squeeze S_ squeezes_S1_S_).sem
            (bigM.slice (Rect.unit (s := S1024x8192) (k0_off20 c k) S1024x512.size (k0_off20_inb c k)) (fun _ => rfl))
            ((wM.slice (Rect.unit (s := S2x1024x512) (k0_off19 c k) S1x1024x512.size (k0_off19_inb c k)) (fun _ => rfl)).squeeze S1024x512 squeezes_S1x1024x512_S1024x512)
            (View.wordExact_bits rfl) ((View.wordExact_bits rfl).reshape _ _)) fun _ =>
          .op (.load wM (Rect.unit (s := S2x1024x512) (k0_off21 c k) S1x1024x512.size (k0_off21_inb c k)).toLoadRect (View.loadsAt_vmem h_S1x1024x512)) fun v74 =>
          .op (.load eM (Rect.unit (s := S16x512x512) (k0_off22 c k) S1x512x512.size (k0_off22_inb c k)).toLoadRect (View.loadsAt_vmem h_S1x512x512)) fun _ =>
          .op (.store eM (Rect.unit (s := S16x512x512) (k0_off22 c k) S1x512x512.size (k0_off22_inb c k)) (k0_pay10 (xv m c) v74) Finset.univ (View.stores_vmem h_S1x512x512 (h2.storeExact_slice rfl _ (k0_off22_packedbf16 c k)) (fun _ => rfl)) (.inl rfl)) fun _ =>
          .ret ⟨Scf.iv z1 z2 k, k0_pay11 (xv m c) acc v74⟩) Q := by
    intro S
    iintro ⟨#HC, Hf, HS, HO, ⟨%f, He⟩, Hk⟩
    iapply (wp_fetched m κ c (sl (8 + k.val)) (ck c (8 + k.val)) (wsem_of (o18 c k)) (wSl_of (o19 c k)) hO) $$ [Hf HO]
    · isplitr; · iexact HC
      isplitl [Hf] <;> iassumption
    iintro ⟨Hw, HO⟩
    iapply (wp_load_w m c (sl (8 + k.val)) (ck c (8 + k.val)).val (o21 c k)) $$ Hw
    iintro Hw
    iapply (wp_load_e c (other c (tn2 k)) (o22 c k) f) $$ He
    iintro %v He
    iapply (wp_store_e m c (other c (tn2 k)) (o22 c k) (by rw [ck_other]; rfl) f) $$ He
    iintro He
    rw [WP_ret]
    imodintro
    ihave Hi := (Full_Idle m c (sl (8 + k.val)) (ck c (8 + k.val)).val) $$ Hw
    iapply Hk
    isplitl [HS Hi]
    · isplitl [HS] <;> iassumption
    isplitl [HO] <;> iassumption
  by_cases hc : k0_cond2 k = 1#1
  · have hlt := (cond2 k).1 hc
    rw [dif_pos hc, Stg_lt m c hlt, sl_two]
    simp only [Prog.lift, Prog.bind_op, Prog.bind_ret, Prog.pure_eq_ret]
    iintro ⟨#HC, ⟨Hf, Hi⟩, HO, He, Hk⟩
    iapply (wp_fetch m c (sl (8 + k.val + 1)) (ck c (8 + k.val + 1)) (bigSl_of (o17 c k hc)) (wSl_of (o16 c k)) (wsem_of (o15 c k))) $$ Hi
    iintro Hf2
    iapply (rest (Fly m c (sl (8 + k.val + 1)) (ck c (8 + k.val + 1))))
    isplitr; · iexact HC
    isplitl [Hf]; · iexact Hf
    isplitl [Hf2]; · iexact Hf2
    isplitl [HO]; · iexact HO
    isplitl [He] <;> iassumption
  · have hlt : ¬ 8 + k.val + 1 < 16 := fun h => hc ((cond2 k).2 h)
    rw [dif_neg hc, show Stg m c (8 + k.val + 1) = iprop(Idle m c (sl (8 + k.val + 1)) ∗ Idle m c (sl (8 + k.val + 1 + 1))) from if_neg hlt, sl_two]
    simp only [Prog.lift, Prog.bind_op, Prog.bind_ret, Prog.pure_eq_ret]
    iintro ⟨#HC, ⟨Hf, Hi⟩, HO, He, Hk⟩
    iapply (rest (Idle m c (sl (8 + k.val + 1))))
    isplitr; · iexact HC
    isplitl [Hf]; · iexact Hf
    isplitl [Hi]; · iexact Hi
    isplitl [HO]; · iexact HO
    isplitl [He] <;> iassumption

def A2 (j : Fin 8) : sProp 𝕄 :=
  iprop(cred (tallyAt (cell c 2 j) () N) ∗ rxAt c j qR (rxFin m c) ∗ eAt c (other c j) fullShare (eFin m c) ∗ atPos ER (cell c 1 j) 1 ∅ 0)
def B2 (j : Fin 8) : sProp 𝕄 :=
  iprop((∃ f, eAt c (other c j) fullShare f) ∗ (∃ f, ryAt (neighbor c) j fullShare f)
    ∗ cred (tallyAt (cell c 1 j) () N) ∗ atPos ER (cell c 1 j) 0 ∅ 0
    ∗ dutyTok ER (cell c 2 j) 0 true ∗ dutyTok ER (cell (neighbor c) 3 j) 0 true)

/-- Before trip k of the second loop. -/
def I2 (k : ℕ) (acc : FVec F S512x1 .f32 × FVec F S512x1 .f32) : sProp 𝕄 :=
  iprop(Cx m κ c ∗ ⌜acc = (acc2 m c k, accp m c k)⌝ ∗ Stg m c (8 + k) ∗ ow c (owY c k) ∗ upTo (A2 m c) (B2 c) k)

theorem t2_trip (k : Fin k0_t2_loop.trips) (acc : FVec F S512x1 .f32 × FVec F S512x1 .f32) :
    I2 m κ c k.val acc
      ⊢ WP c (k0_t2_body a0 h0 bigM h1 eM h2 rxM h3 ryM h4 a5 h5 wM h6 cc0_scratch1 cc0_scratch2 cc0_scratch3 cc0_scratch4 cc0_scratch5
          c v5 (xv m c) k acc) (I2 m κ c (k.val + 1)) := by
  unfold I2 k0_t2_body
  iintro ⟨#HC, %hacc, Hs, HO, Hu⟩
  subst hacc
  ihave Hu' := (upTo_take (A2 m c) (B2 c) (tn2 k)) $$ Hu
  icases Hu' with ⟨HB, Hu⟩
  unfold B2
  icases HB with ⟨He, Hr, Hc, Ha, Ht1, Ht2⟩
  simp only [Prog.lift, Prog.bind_op, Prog.bind_ret, Prog.pure_eq_ret]
  rw [WP_bind]
  iapply (part2_run m κ c a0 h0 h1 h2 h3 h4 a5 h5 h6 v5 k _ _ _ (O := owY c k.val) (above_owY (by decide) c k.val) _)
  isplitr; · iexact HC
  isplitl [Hs]; · iexact Hs
  isplitl [HO]; · iexact HO
  isplitl [He]; · iexact He
  iintro %v ⟨Hs, HO, He⟩
  iapply (wp_wait_cell m κ c 1 (tn2 k) 2 (sem1_of (o23 k)) (congrArg (fun M => M.view.dmaCredit) (rxSl_of (o24 k))) (lv_1 c (tn2 k)).le
    (O := owY c k.val) (above_owY (by decide) c k.val)) $$ [Hc Ha HO]
  · isplitr; · iexact HC
    isplitl [Hc]; · iexact Hc
    isplitl [HO] <;> iassumption
  iintro ⟨HO, Ha, Hp⟩
  ihave Hp' := (Entails.of_eq (pay_1 m c (tn2 k))) $$ Hp
  ihave Hp2 := (rx_halves c (tn2 k) (rxFin m c)) $$ Hp'
  icases Hp2 with ⟨Hl, Hrr⟩
  rw [show owY c k.val = owY c (k.val + 1) + tallyAt (cell (neighbor c) 3 (tn2 k)) () N from owY_step c (tn2 k)]
  iapply (wp_send_y m κ c (tn2 k) (dev4 c) (rxSl_of (o24 k)) (rySl_of (o24 k)) (sem2_of (o23 k)) (sem3_of (o23 k))
    (owY c (k.val + 1))) $$ [Hl Hr HO Ht1 Ht2]
  · isplitr; · iexact HC
    isplitl [Hl]; · iexact Hl
    isplitl [Hr]; · iexact Hr
    isplitl [HO]; · iexact HO
    isplitl [Ht1] <;> iassumption
  iintro ⟨Hc, HO⟩
  iapply (wp_load_rx m c (tn2 k) qR (o26 k)) $$ Hrr
  iintro Hrr
  rw [WP_ret]
  imodintro
  isplitr; · iexact HC
  isplitr
  · ipureintro
    rw [show accp m c (k.val + 1) = k0_pay4 (accp m c k.val) (rxRow c m (tn2 k)) from accp_succ m c (tn2 k)]
    rfl
  isplitl [Hs]; · iexact Hs
  isplitl [HO]; · iexact HO
  iapply Hu
  unfold A2
  isplitl [Hc]; · iexact Hc
  isplitl [Hrr]; · iexact Hrr
  isplitl [He] <;> iassumption

/-! ## The third loop -/

def A3 (j : Fin 8) : sProp 𝕄 := iprop(ryAt c j fullShare (ryFin m c) ∗ atPos ER (cell c 3 j) 1 ∅ 0)
def B3 (j : Fin 8) : sProp 𝕄 := iprop(cred (tallyAt (cell c 3 j) () N) ∗ atPos ER (cell c 3 j) 0 ∅ 0)

/-- Before trip k of the third loop. -/
def I3 (k : ℕ) (acc : FVec F S512x1 .f32) : sProp 𝕄 :=
  iprop(Cx m κ c ∗ ⌜acc = accq m c k⌝ ∗ ow c 0 ∗ upTo (A3 m c) (B3 c) k)

theorem t3_trip (k : Fin k0_t3_loop.trips) (acc : FVec F S512x1 .f32) :
    I3 m κ c k.val acc
      ⊢ WP c (k0_t3_body a0 h0 bigM h1 eM h2 rxM h3 ryM h4 a5 h5 wM h6 cc0_scratch1 cc0_scratch2 cc0_scratch3 cc0_scratch4 cc0_scratch5
          k acc) (I3 m κ c (k.val + 1)) := by
  unfold I3 k0_t3_body
  iintro ⟨#HC, %hacc, HO, Hu⟩
  subst hacc
  ihave Hu' := (upTo_take (A3 m c) (B3 c) (tn3 k)) $$ Hu
  icases Hu' with ⟨HB, Hu⟩
  unfold B3
  icases HB with ⟨Hc, Ha⟩
  simp only [Prog.lift, Prog.bind_op, Prog.bind_ret, Prog.pure_eq_ret]
  iapply (wp_wait_cell m κ c 3 (tn3 k) 3 (sem3_of (o27 k)) (congrArg (fun M => M.view.dmaCredit) (rySl_of (o28 k))) (lv_3 c (tn3 k)).le
    (O := 0) (above_zero 3)) $$ [Hc Ha HO]
  · isplitr; · iexact HC
    isplitl [Hc]; · iexact Hc
    isplitl [HO] <;> iassumption
  iintro ⟨HO, Ha, Hp⟩
  ihave Hp' := (Entails.of_eq (pay_3 m c (tn3 k))) $$ Hp
  iapply (wp_load_ry m c (tn3 k) (o29 k)) $$ Hp'
  iintro Hp'
  rw [WP_ret]
  imodintro
  isplitr; · iexact HC
  isplitr
  · ipureintro
    rw [show accq m c (k.val + 1) = k0_pay5 (accq m c k.val) (ryRow c m (tn3 k)) from accq_succ m c (tn3 k)]
  isplitl [HO]; · iexact HO
  iapply Hu
  unfold A3
  isplitl [Hp'] <;> iassumption

/-! ## The last loop -/

def A4 (j : Fin 8) : sProp 𝕄 :=
  iprop(eAt c (mine c j) fullShare (eFin m c) ∗ rxAt c j qL (rxFin m c) ∗ atPos ER (cell c 0 j) 1 ∅ 0 ∗ atPos ER (cell c 2 j) 1 ∅ 0)
def B4 (j : Fin 8) : sProp 𝕄 :=
  iprop(cred (tallyAt (cell c 0 j) () N) ∗ atPos ER (cell c 0 j) 0 ∅ 0 ∗ cred (tallyAt (cell c 2 j) () N) ∗ atPos ER (cell c 2 j) 0 ∅ 0)

/-- Before trip k of the last loop. -/
def I4 (k : ℕ) (_ : PUnit.{1}) : sProp 𝕄 := iprop(Cx m κ c ∗ ow c 0 ∗ upTo (A4 m c) (B4 c) k)

theorem t4_trip (k : Fin k0_t4_loop.trips) (acc : PUnit.{1}) :
    I4 m κ c k.val acc
      ⊢ WP c (k0_t4_body a0 h0 bigM h1 eM h2 rxM h3 ryM h4 a5 h5 wM h6 cc0_scratch1 cc0_scratch2 cc0_scratch3 cc0_scratch4 cc0_scratch5
          c k acc) (I4 m κ c (k.val + 1)) := by
  unfold I4 k0_t4_body
  iintro ⟨#HC, HO, Hu⟩
  ihave Hu' := (upTo_take (A4 m c) (B4 c) (tn4 k)) $$ Hu
  icases Hu' with ⟨HB, Hu⟩
  unfold B4
  icases HB with ⟨Hc0, Ha0, Hc2, Ha2⟩
  simp only [Prog.lift, Prog.bind_op, Prog.bind_ret, Prog.pure_eq_ret]
  iapply (wp_wait_cell m κ c 0 (tn4 k) _ (sem0_of (o30 k)) (congrArg (fun M => M.view.dmaCredit) (eSl_of (o31 c k))) le_rfl
    (O := 0) (above_zero _)) $$ [Hc0 Ha0 HO]
  · isplitr; · iexact HC
    isplitl [Hc0]; · iexact Hc0
    isplitl [HO] <;> iassumption
  iintro ⟨HO, Ha0, Hp0⟩
  iapply (wp_wait_cell m κ c 2 (tn4 k) _ (sem2_of (o30 k)) (congrArg (fun M => M.view.dmaCredit) (rxSl_of (o32 k))) le_rfl
    (O := 0) (above_zero _)) $$ [Hc2 Ha2 HO]
  · isplitr; · iexact HC
    isplitl [Hc2]; · iexact Hc2
    isplitl [HO] <;> iassumption
  iintro ⟨HO, Ha2, Hp2⟩
  ihave Hp0' := (Entails.of_eq (pay_0 m c (tn4 k))) $$ Hp0
  ihave Hp2' := (Entails.of_eq (pay_2 m c (tn4 k))) $$ Hp2
  rw [WP_ret]
  imodintro
  isplitr; · iexact HC
  isplitl [HO]; · iexact HO
  iapply Hu
  unfold A4
  isplitl [Hp0']; · iexact Hp0'
  isplitl [Hp2']; · iexact Hp2'
  isplitl [Ha0] <;> iassumption

end

end Cert.Talk

end
-- ==== Proof.RunA.lean ====
/-
  The whole body of the talking call: the barrier, the four loops, and the counters put back to zero.
-/
module

public import proofs.«01_k».proof.Proof.Trips

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- The staged copy of x and the staged partial sums. -/
abbrev xsLoc (c : Dev nD) : Loc nD τ sig := (c : Thread nD τ).loc cc0_stg0_0
abbrev sLoc (c : Dev nD) : Loc nD τ sig := (c : Thread nD τ).loc cc0_stg4_0

theorem dev1 (c : Dev nD) : (⟨k0_dev1 c, k0_dev1_lt c⟩ : Dev nD) = partner c := by revert c; decide +kernel
theorem dev2 (c : Dev nD) : (⟨k0_dev2 c, k0_dev2_lt c⟩ : Dev nD) = neighbor c := by revert c; decide +kernel
theorem o1 : ∀ c : Dev nD, k0_off1 c = ![(0 : Fin 2).val] := by decide +kernel
theorem o2 : ∀ c : Dev nD, k0_off2 c = ![(0 : Fin 2).val, 0, 0] := by decide +kernel
theorem o3 : ∀ c : Dev nD, k0_off3 c = ![0, 512 * (ck c 0).val] := by decide +kernel

/-- A load of the whole staged copy of x, -/
theorem wp_load_xs (c : Dev nD) {α : Type} {off : Fin 2 → Nat} (hoff : off = fun _ => 0) {inb}
    {hl : (Memref.whole cc0_stg0_0).view.LoadsAt (Rect.unit (s := S512x1024) off S512x1024.size inb).toLoadRect}
    {kk : (S512x1024.Idx → Elt F .f32) → Prog (TpuEff nD τ sig (Elt F) Λ₀ .tc) α} {Q : α → sProp 𝕄} (f : Buf (Elt F) (xsLoc c)) :
    (xsLoc c ↦{fullShare} f : sProp 𝕄) ⊢ iprop(((xsLoc c ↦{fullShare} f) -∗ WP c (kk f) Q)
        -∗ WP c (.op (.load (Memref.whole cc0_stg0_0) (Rect.unit (s := S512x1024) off S512x1024.size inb).toLoadRect hl) kk) Q) := by
  subst hoff
  exact wp_load_whole 𝒱₀ (c : Thread nD τ) none Set.univ
/-- of the whole staged partial sums, -/
theorem wp_load_s (c : Dev nD) {α : Type} {off : Fin 2 → Nat} (hoff : off = fun _ => 0) {inb}
    {hl : (Memref.whole cc0_stg4_0).view.LoadsAt (Rect.unit (s := S512x128) off S512x128.size inb).toLoadRect}
    {kk : (S512x128.Idx → Elt F .f32) → Prog (TpuEff nD τ sig (Elt F) Λ₀ .tc) α} {Q : α → sProp 𝕄} (f : Buf (Elt F) (sLoc c)) :
    (sLoc c ↦{fullShare} f : sProp 𝕄) ⊢ iprop(((sLoc c ↦{fullShare} f) -∗ WP c (kk f) Q)
        -∗ WP c (.op (.load (Memref.whole cc0_stg4_0) (Rect.unit (s := S512x128) off S512x128.size inb).toLoadRect hl) kk) Q) := by
  subst hoff
  exact wp_load_whole 𝒱₀ (c : Thread nD τ) none Set.univ
/-- and a store of them. -/
theorem wp_store_s (c : Dev nD) {α : Type} {off : Fin 2 → Nat} (hoff : off = fun _ => 0) {inb} {w : S512x128.Idx → Elt F .f32}
    {hx : ((Memref.whole cc0_stg4_0).access (Rect.unit (s := S512x128) off S512x128.size inb)).Stores Finset.univ} {hm}
    {kk : PUnit → Prog (TpuEff nD τ sig (Elt F) Λ₀ .tc) α} {Q : α → sProp 𝕄} (f : Buf (Elt F) (sLoc c)) :
    (sLoc c ↦{fullShare} f : sProp 𝕄) ⊢ iprop(((sLoc c ↦{fullShare} (w : Buf (Elt F) (sLoc c))) -∗ WP c (kk ⟨⟩) Q)
        -∗ WP c (.op (.store (Memref.whole cc0_stg4_0) (Rect.unit (s := S512x128) off S512x128.size inb) w Finset.univ hx hm) kk) Q) := by
  subst hoff
  exact wp_store_whole 𝒱₀ (c : Thread nD τ) none Set.univ
theorem off00 : (![0, 0] : Fin 2 → Nat) = fun _ => 0 := by decide

theorem bigSep_four {Φ : Fin 4 → sProp 𝕄} : bigSep Finset.univ Φ = iprop(Φ 0 ∗ Φ 1 ∗ Φ 2 ∗ Φ 3) :=
  bigSep_univ_eq_bigSepL [0, 1, 2, 3] (by decide) (by decide) Φ

theorem rx_any (c : Dev nD) : (iprop(∃ f, rxLoc c ↦{fullShare} f) : sProp 𝕄) ⊢ bigSep Finset.univ fun j : Fin 8 => iprop(∃ f, rxAt c j fullShare f) :=
  exists_elim fun f => (Entails.of_eq (rx_split c fullShare f)).trans (bigSep_mono fun j _ => show rxAt c j fullShare f ⊢ (iprop(∃ f, rxAt c j fullShare f) : sProp 𝕄) from exists_intro (Φ := fun f => rxAt c j fullShare f) f)
theorem ry_any (c : Dev nD) : (iprop(∃ f, ryLoc c ↦{fullShare} f) : sProp 𝕄) ⊢ bigSep Finset.univ fun j : Fin 8 => iprop(∃ f, ryAt c j fullShare f) :=
  exists_elim fun f => (Entails.of_eq (ry_split c f)).trans (bigSep_mono fun j _ => show ryAt c j fullShare f ⊢ (iprop(∃ f, ryAt c j fullShare f) : sProp 𝕄) from exists_intro (Φ := fun f => ryAt c j fullShare f) f)

section

variable (κ : GSem nD τ sig → ℕ) (c : Dev nD)
variable (h0 : (Memref.whole cc0_stg0_0).IsWhole) (h1 : bigM.IsWhole) (h2 : eM.IsWhole) (h3 : rxM.IsWhole)
  (h4 : ryM.IsWhole) (h5 : (Memref.whole cc0_stg4_0).IsWhole) (h6 : wM.IsWhole)

/-! ## The barrier -/

/-- What the barrier takes, -/
def BarPre : sProp 𝕄 :=
  iprop(Invs m κ ∗ levAts L lv ∗ ow c (O₀ c)
    ∗ dutyTok ER (barCell (partner c)) 0 true ∗ dutyTok ER (barCell (neighbor c)) 0 false
    ∗ reached ER (barCell (partner c)) 0 ∗ reached ER (barCell (neighbor c)) 0
    ∗ cred (tallyAt (barCell c) () 2) ∗ atPos ER (barCell c) 0 ∅ 0
    ∗ (bigSep Finset.univ fun p : Fin 4 × Fin 8 => reached ER (cell c p.1 p.2) 0)
    ∗ (∃ f, rxLoc c ↦{fullShare} f) ∗ (∃ f, ryLoc c ↦{fullShare} f) ∗ xsLoc c ↦{fullShare} xIn m c)
/-- and gives: the peers' landing slots. -/
def BarPost : sProp 𝕄 :=
  iprop(Cx m κ c ∗ ow c (owY c 0 + owX c 0) ∗ atPos ER (barCell c) 1 ∅ 0
    ∗ (bigSep Finset.univ fun k : Fin 8 => iprop(∃ f, rxAt (partner c) k fullShare f))
    ∗ (bigSep Finset.univ fun k : Fin 8 => iprop(∃ f, ryAt (neighbor c) k fullShare f))
    ∗ xsLoc c ↦{fullShare} xIn m c)

theorem reached_row (q : Fin 4) :
    (bigSep Finset.univ fun p : Fin 4 × Fin 8 => (reached ER (cell c p.1 p.2) 0 : sProp 𝕄))
      ⊢ bigSep Finset.univ fun k : Fin 8 => reached ER (cell c q k) 0 := by
  rw [bigSep_univ_prod (fun p : Fin 4 × Fin 8 => (reached ER (cell c p.1 p.2) 0 : sProp 𝕄))]
  exact bigSep_elim (Φ := fun q : Fin 4 => bigSep Finset.univ fun k : Fin 8 => (reached ER (cell c q k) 0 : sProp 𝕄)) (Finset.mem_univ q)

theorem give_rx : iprop((∃ f, rxLoc c ↦{fullShare} f) ∗ bigSep Finset.univ fun p : Fin 4 × Fin 8 => reached ER (cell c p.1 p.2) 0)
    ⊢ (barPay (partner c) true : sProp 𝕄) := by
  unfold barPay
  rw [if_pos rfl, partner_partner, bigSep_sep']
  iintro ⟨H, #Hr⟩
  isplitl [H]
  · iapply (rx_any c) $$ H
  · iapply (reached_row c 1) $$ Hr
theorem give_ry : iprop((∃ f, ryLoc c ↦{fullShare} f) ∗ bigSep Finset.univ fun p : Fin 4 × Fin 8 => reached ER (cell c p.1 p.2) 0)
    ⊢ (barPay (neighbor c) false : sProp 𝕄) := by
  unfold barPay
  rw [if_neg (by decide), neighbor_neighbor, bigSep_sep']
  iintro ⟨H, #Hr⟩
  isplitl [H]
  · iapply (ry_any c) $$ H
  · iapply (reached_row c 3) $$ Hr

/-- The cells the device pays are open: its own two arrays, and the peers' two, as the barrier's units say. -/
theorem Cx_intro : iprop(Invs m κ ∗ levAts L lv ∗ (bigSep Finset.univ fun p : Fin 4 × Fin 8 => reached ER (cell c p.1 p.2) 0)
      ∗ (bigSep Finset.univ fun k : Fin 8 => reached ER (cell (partner c) 1 k) 0)
      ∗ (bigSep Finset.univ fun k : Fin 8 => reached ER (cell (neighbor c) 3 k) 0)) ⊢ Cx m κ c := by
  unfold Cx
  rw [bigSep_univ_prod (fun p : Fin 4 × Fin 8 => (reached ER (cell (payer p.1 c) p.1 p.2) 0 : sProp 𝕄)), bigSep_four]
  iintro ⟨#HI, #HL, #Hr, #H1, #H3⟩
  isplitr; · iexact HI
  isplitr; · iexact HL
  isplitr; · iapply (reached_row c 0) $$ Hr
  isplitr; · iexact H1
  isplitr; · iapply (reached_row c 2) $$ Hr
  iexact H3

theorem Stg_0 : Stg m c 0 = iprop(Fly m c 0 (ck c 0) ∗ Idle m c 1) := rfl

theorem BarPre_invs : BarPre m κ c ⊢ Invs m κ := by
  unfold BarPre
  iintro ⟨H, -⟩
  iexact H

theorem part3_run (Q : (Σ' (_ : Dev nD) (_ : BitVec 32) (_ : BitVec 32) (_ : BitVec 32) (_ : BitVec 32) (_ : FVec F S512x1024 .bf16)
      (_ : BitVec 32) (_ : BitVec 32), BitVec 32) → sProp 𝕄) :
    iprop(BarPre m κ c ∗ (∀ w2 w5 w6 w7 w25 w27 w28, BarPost m κ c -∗ Q ⟨c, w2, w5, w6, w7, xv m c, w25, w27, w28⟩))
      ⊢ WP c (k0_part3 (Memref.whole cc0_stg0_0) h0 bigM h1 eM h2 rxM h3 ryM h4 (Memref.whole cc0_stg4_0) h5 wM h6 cc0_scratch1 cc0_scratch2
          cc0_scratch3 cc0_scratch4 cc0_scratch5) Q := by
  rw [k0_part3_eq_skeleton]
  unfold k0_part3_skel
  simp only [semSignalWord, semWaitWord, Prog.lift, Prog.bind_op, Prog.bind_ret, Prog.pure_eq_ret, wp_deviceId]
  unfold BarPre BarPost ow
  rw [dev1, dev2]
  iintro ⟨⟨#HI, #HL, ⟨%W, HO⟩, Ht1, Ht2, #Hr1, #Hr2, Hc, Hat, #Hr, Hrx, Hry, Hx⟩, Hk⟩
  ihave #HI1 := (Invs_bar m κ (partner c)) $$ HI
  ihave #HI2 := (Invs_bar m κ (neighbor c)) $$ HI
  ihave #HI0 := (Invs_bar m κ c) $$ HI
  iapply (Rounds.wp_signal 𝒱₀ ER (rd m) (c : Thread nD τ) none (dst := (partner c : Thread nD τ)) (sem := barS) (r := 0) (d := true)
      (κ := κ (barCell (partner c))) (mem_bar m (partner c) true) (amount_bar m (partner c) true) ()
      (owY c 0 + owX c 0 + tallyAt (barCell (neighbor c)) () 1) rfl) $$ [HO Ht1 Hrx]
  · isplitr; · iexact HI1
    isplitl [HO]; · iexact HO
    isplitl [Ht1]; · iexact Ht1
    isplitl [Hrx]
    · rw [payload_bar]
      iapply (give_rx c)
      isplitl [Hrx]; · iexact Hrx
      iexact Hr
    iexact Hr1
  iintro HO
  iapply (Rounds.wp_signal 𝒱₀ ER (rd m) (c : Thread nD τ) none (dst := (neighbor c : Thread nD τ)) (sem := barS) (r := 0) (d := false)
      (κ := κ (barCell (neighbor c))) (mem_bar m (neighbor c) false) (amount_bar m (neighbor c) false) ()
      (owY c 0 + owX c 0) rfl) $$ [HO Ht2 Hry]
  · isplitr; · iexact HI2
    isplitl [HO]; · iexact HO
    isplitl [Ht2]; · iexact Ht2
    isplitl [Hry]
    · rw [payload_bar]
      iapply (give_ry c)
      isplitl [Hry]; · iexact Hry
      iexact Hr
    iexact Hr2
  iintro HO
  iapply (Rounds.wp_wait_rest_token 𝒱₀ ER (rd m) (c : Thread nD τ) none (κ := κ (barCell c))
      (wpE_semWait_eq 𝒱₀ (c : Thread nD τ) none Set.univ) (Set.mem_univ _) () (O := owY c 0 + owX c 0) (W := W) (R := 0) (m := 0) (T := ∅)
      ((Nat.zero_add 2).trans (expect_bar m c).symm)) $$ [Hc HO Hat]
  · isplitr; · iexact HI0
    isplitl [Hc]; · iexact Hc
    isplitl [HO]; · iexact HO
    isplitr
    · iapply (mayWait c (.reg barS) 1 (lv_bar c).le (above_add (above_owY (by decide) c 0) (above_owX (by decide) c 0))); iexact HL
    iexact Hat
  iintro ⟨HO, Hat, -, Hpay⟩
  ihave Hp := (Entails.of_eq (rest_bar m c)) $$ Hpay
  unfold barPay
  rw [if_pos rfl, if_neg (by decide), bigSep_sep', bigSep_sep']
  icases Hp with ⟨⟨Hprx, #Hp1⟩, ⟨Hpry, #Hp3⟩⟩
  iapply (wp_load_xs c off00 (xIn m c)) $$ Hx
  iintro Hx
  rw [WP_ret, show k0_pay12 (xIn m c) = xv m c from rfl]
  imodintro
  iapply Hk
  isplitr
  · iapply (Cx_intro m κ c)
    isplitr; · iexact HI
    isplitr; · iexact HL
    isplitr; · iexact Hr
    isplitr; · iexact Hp1
    iexact Hp3
  isplitl [HO]; · iexists _; iexact HO
  isplitl [Hat]; · iexact Hat
  isplitl [Hprx]; · iexact Hprx
  isplitl [Hpry]; · iexact Hpry
  iexact Hx

/-! ## The body -/

/-- The sums the call leaves. -/
def sFin : Vec F S512x128 .f32 := k0_pay6 (acc2 m c 8) (accq m c 8)

/-- What the body takes, -/
def APre : sProp 𝕄 :=
  iprop(BarPre m κ c
    ∗ (bigSep Finset.univ fun p : Fin 4 × Fin 8 => atPos ER (cell c p.1 p.2) 0 ∅ 0)
    ∗ (bigSep Finset.univ fun p : Fin 4 × Fin 8 => dutyTok ER (cell (payer p.1 c) p.1 p.2) 0 true)
    ∗ (bigSep Finset.univ fun k : Fin 8 => cred (tallyAt (cell c 1 k) () N))
    ∗ (bigSep Finset.univ fun k : Fin 8 => cred (tallyAt (cell c 3 k) () N))
    ∗ (bigLoc c ↦{fullShare} wIn m c)
    ∗ (∃ f, eLoc c ↦{fullShare} f) ∗ (∃ f, sLoc c ↦{fullShare} f) ∗ (∃ f, wLoc c ↦{fullShare} f)
    ∗ semVal ((c : Thread nD τ), .dma (wsm 0)) 0 ∗ semVal ((c : Thread nD τ), .dma (wsm 1)) 0)

/-- and leaves. -/
def APost : sProp 𝕄 :=
  iprop(ow c 0 ∗ (xsLoc c ↦{fullShare} xIn m c) ∗ (bigLoc c ↦{fullShare} wIn m c)
    ∗ (eLoc c ↦{fullShare} eFin m c) ∗ (rxLoc c ↦{fullShare} rxFin m c) ∗ (ryLoc c ↦{fullShare} ryFin m c) ∗ (sLoc c ↦{fullShare} sFin m c)
    ∗ (∃ f, wLoc c ↦{fullShare} f)
    ∗ semVal ((c : Thread nD τ), .dma (wsm 0)) 0 ∗ semVal ((c : Thread nD τ), .dma (wsm 1)) 0
    ∗ semVal (barCell c) 0 ∗ bigSep Finset.univ fun p : Fin 4 × Fin 8 => semVal (cell c p.1 p.2) 0)

/-- The 16 slots are the device's own eight and the other eight. -/
def halves : Fin 8 ⊕ Fin 8 ≃ Fin 16 :=
  Equiv.ofBijective (Sum.elim (mine c) (other c)) (by revert c; decide +kernel)
theorem e_halves (Φ : Fin 16 → sProp 𝕄) :
    bigSep Finset.univ Φ = iprop((bigSep Finset.univ fun k : Fin 8 => Φ (mine c k)) ∗ bigSep Finset.univ fun k : Fin 8 => Φ (other c k)) := by
  rw [bigSep_univ_equiv (halves c) Φ, bigSep_univ_sum]
  rfl

theorem rows (Φ : Fin 4 → Fin 8 → sProp 𝕄) :
    (bigSep Finset.univ fun p : Fin 4 × Fin 8 => Φ p.1 p.2)
      = iprop((bigSep Finset.univ fun k => Φ 0 k) ∗ (bigSep Finset.univ fun k => Φ 1 k) ∗ (bigSep Finset.univ fun k => Φ 2 k)
        ∗ bigSep Finset.univ fun k => Φ 3 k) := by
  rw [bigSep_univ_prod (fun p : Fin 4 × Fin 8 => Φ p.1 p.2), bigSep_four]

theorem e_any : (iprop(∃ f, eLoc c ↦{fullShare} f) : sProp 𝕄)
    ⊢ iprop((bigSep Finset.univ fun k : Fin 8 => iprop(∃ f, eAt c (mine c k) fullShare f)) ∗ bigSep Finset.univ fun k : Fin 8 => iprop(∃ f, eAt c (other c k) fullShare f)) :=
  exists_elim fun f => (Entails.of_eq (e_split c f)).trans <| (bigSep_mono fun j _ =>
    show eAt c j fullShare f ⊢ (iprop(∃ f, eAt c j fullShare f) : sProp 𝕄) from exists_intro (Φ := fun f => eAt c j fullShare f) f).trans
    (Entails.of_eq (e_halves c fun j => iprop(∃ f, eAt c j fullShare f)))

theorem B1_all : bigSep Finset.univ (B1 (F := F) c) = iprop((bigSep Finset.univ fun k : Fin 8 => iprop(∃ f, eAt c (mine c k) fullShare f))
    ∗ (bigSep Finset.univ fun k : Fin 8 => iprop(∃ f, rxAt (partner c) k fullShare f))
    ∗ (bigSep Finset.univ fun k : Fin 8 => dutyTok ER (cell c 0 k) 0 true)
    ∗ bigSep Finset.univ fun k : Fin 8 => dutyTok ER (cell (partner c) 1 k) 0 true) := by
  unfold B1; rw [bigSep_sep', bigSep_sep', bigSep_sep']
theorem B2_all : bigSep Finset.univ (B2 (F := F) c) = iprop((bigSep Finset.univ fun k : Fin 8 => iprop(∃ f, eAt c (other c k) fullShare f))
    ∗ (bigSep Finset.univ fun k : Fin 8 => iprop(∃ f, ryAt (neighbor c) k fullShare f))
    ∗ (bigSep Finset.univ fun k : Fin 8 => cred (tallyAt (cell c 1 k) () N))
    ∗ (bigSep Finset.univ fun k : Fin 8 => atPos ER (cell c 1 k) 0 ∅ 0)
    ∗ (bigSep Finset.univ fun k : Fin 8 => dutyTok ER (cell c 2 k) 0 true)
    ∗ bigSep Finset.univ fun k : Fin 8 => dutyTok ER (cell (neighbor c) 3 k) 0 true) := by
  unfold B2; rw [bigSep_sep', bigSep_sep', bigSep_sep', bigSep_sep', bigSep_sep']
theorem A2_all : bigSep Finset.univ (A2 m c) = iprop((bigSep Finset.univ fun k : Fin 8 => cred (tallyAt (cell c 2 k) () N))
    ∗ (bigSep Finset.univ fun k : Fin 8 => rxAt c k qR (rxFin m c))
    ∗ (bigSep Finset.univ fun k : Fin 8 => eAt c (other c k) fullShare (eFin m c))
    ∗ bigSep Finset.univ fun k : Fin 8 => atPos ER (cell c 1 k) 1 ∅ 0) := by
  unfold A2; rw [bigSep_sep', bigSep_sep', bigSep_sep']
theorem B3_all : bigSep Finset.univ (B3 (F := F) c) = iprop((bigSep Finset.univ fun k : Fin 8 => cred (tallyAt (cell c 3 k) () N))
    ∗ bigSep Finset.univ fun k : Fin 8 => atPos ER (cell c 3 k) 0 ∅ 0) := by
  unfold B3; rw [bigSep_sep']
theorem A3_all : bigSep Finset.univ (A3 m c) = iprop((bigSep Finset.univ fun k : Fin 8 => ryAt c k fullShare (ryFin m c))
    ∗ bigSep Finset.univ fun k : Fin 8 => atPos ER (cell c 3 k) 1 ∅ 0) := by
  unfold A3; rw [bigSep_sep']
theorem B4_all : bigSep Finset.univ (B4 (F := F) c) = iprop((bigSep Finset.univ fun k : Fin 8 => cred (tallyAt (cell c 0 k) () N))
    ∗ (bigSep Finset.univ fun k : Fin 8 => atPos ER (cell c 0 k) 0 ∅ 0)
    ∗ (bigSep Finset.univ fun k : Fin 8 => cred (tallyAt (cell c 2 k) () N))
    ∗ bigSep Finset.univ fun k : Fin 8 => atPos ER (cell c 2 k) 0 ∅ 0) := by
  unfold B4; rw [bigSep_sep', bigSep_sep', bigSep_sep']
theorem A4_all : bigSep Finset.univ (A4 m c) = iprop((bigSep Finset.univ fun k : Fin 8 => eAt c (mine c k) fullShare (eFin m c))
    ∗ (bigSep Finset.univ fun k : Fin 8 => rxAt c k qL (rxFin m c))
    ∗ (bigSep Finset.univ fun k : Fin 8 => atPos ER (cell c 0 k) 1 ∅ 0)
    ∗ bigSep Finset.univ fun k : Fin 8 => atPos ER (cell c 2 k) 1 ∅ 0) := by
  unfold A4; rw [bigSep_sep', bigSep_sep', bigSep_sep']

/-- The two shares of the received slots make rx whole. -/
theorem rx_whole : iprop((bigSep Finset.univ fun k : Fin 8 => rxAt c k qL (rxFin m c)) ∗ bigSep Finset.univ fun k : Fin 8 => rxAt c k qR (rxFin m c))
    ⊢ (rxLoc c ↦{fullShare} rxFin m c : sProp 𝕄) := by
  rw [← rx_split, ← rx_split]
  exact (pointsTo_share (PosShare.mem_left_op_right fullShare)).2

theorem e_whole : iprop((bigSep Finset.univ fun k : Fin 8 => eAt c (mine c k) fullShare (eFin m c))
      ∗ bigSep Finset.univ fun k : Fin 8 => eAt c (other c k) fullShare (eFin m c)) ⊢ (eLoc c ↦{fullShare} eFin m c : sProp 𝕄) :=
  Entails.of_eq ((e_halves c fun j => eAt c j fullShare (eFin m c)).symm.trans (e_split c (eFin m c)).symm)

/-- The double buffer at rest: both slots idle. -/
theorem idle_start : iprop((∃ f, wLoc c ↦{fullShare} f) ∗ (bigLoc c ↦{fullShare} wIn m c)
      ∗ semVal ((c : Thread nD τ), .dma (wsm 0)) 0 ∗ semVal ((c : Thread nD τ), .dma (wsm 1)) 0)
    ⊢ (iprop(Idle m c 0 ∗ Idle m c 1) : sProp 𝕄) := by
  have hs : (bigLoc c ↦{fullShare} wIn m c : sProp 𝕄) ⊢ iprop((bigLoc c ↦{qL} wIn m c) ∗ (bigLoc c ↦{qR} wIn m c)) :=
    (pointsTo_share (PosShare.mem_left_op_right fullShare)).1
  have hw : (iprop(∃ f, wLoc c ↦{fullShare} f) : sProp 𝕄) ⊢ iprop((∃ f, wAt c 0 f) ∗ ∃ f, wAt c 1 f) := by
    refine exists_elim fun f => (Entails.of_eq ((w_split c f).trans (bigSep_fin_two _))).trans ?_
    show iprop(wAt c 0 f ∗ wAt c 1 f) ⊢ iprop((∃ f, wAt c 0 f) ∗ ∃ f, wAt c 1 f)
    iintro ⟨H0, H1⟩
    isplitl [H0]; · iexists f; iexact H0
    iexists f; iexact H1
  unfold Idle qs
  rw [if_pos rfl, if_neg (by decide)]
  iintro ⟨Hw, Hb, Hv0, Hv1⟩
  ihave Hw' := hw $$ Hw
  ihave Hb' := hs $$ Hb
  icases Hw' with ⟨Hw0, Hw1⟩
  icases Hb' with ⟨Hb0, Hb1⟩
  isplitl [Hw0 Hb0 Hv0]
  · isplitl [Hw0]; · iexact Hw0
    isplitl [Hb0] <;> iassumption
  isplitl [Hw1]; · iexact Hw1
  isplitl [Hb1] <;> iassumption
theorem idle_end : (iprop(Idle m c 0 ∗ Idle m c 1) : sProp 𝕄)
    ⊢ iprop((∃ f, wLoc c ↦{fullShare} f) ∗ (bigLoc c ↦{fullShare} wIn m c)
      ∗ semVal ((c : Thread nD τ), .dma (wsm 0)) 0 ∗ semVal ((c : Thread nD τ), .dma (wsm 1)) 0) := by
  have hs : iprop((bigLoc c ↦{qL} wIn m c) ∗ (bigLoc c ↦{qR} wIn m c)) ⊢ (bigLoc c ↦{fullShare} wIn m c : sProp 𝕄) :=
    (pointsTo_share (PosShare.mem_left_op_right fullShare)).2
  have hw : iprop((∃ f, wAt c 0 f) ∗ ∃ f, wAt c 1 f) ⊢ (iprop(∃ f, wLoc c ↦{fullShare} f) : sProp 𝕄) :=
    (Entails.of_eq (bigSep_fin_two (fun j : Fin 2 => (iprop(∃ f, wAt c j f) : sProp 𝕄))).symm).trans (w_join c (wBuf m c 0))
  unfold Idle qs
  rw [if_pos rfl, if_neg (by decide)]
  iintro ⟨⟨Hw0, Hb0, Hv0⟩, ⟨Hw1, Hb1, Hv1⟩⟩
  isplitl [Hw0 Hw1]
  · iapply hw
    isplitl [Hw0] <;> iassumption
  isplitl [Hb0 Hb1]
  · iapply hs
    isplitl [Hb0] <;> iassumption
  isplitl [Hv0] <;> iassumption

/-- All the cells are closed: their counters are zero. -/
theorem close_bar : iprop(cellInv ER (rd m) (κ (barCell c)) (barCell c) ∗ atPos ER (barCell c) 1 ∅ 0)
    ⊢ (|={Set.univ}=> semVal (barCell c) 0 : sProp 𝕄) :=
  Rounds.cell_close ER (rd m) (Set.mem_univ _) id (duties_later m _)
theorem close_cell (q : Fin 4) (k : Fin 8) : iprop(cellInv ER (rd m) (κ (cell c q k)) (cell c q k) ∗ atPos ER (cell c q k) 1 ∅ 0)
    ⊢ (|={Set.univ}=> semVal (cell c q k) 0 : sProp 𝕄) :=
  Rounds.cell_close ER (rd m) (Set.mem_univ _) id (duties_later m _)

theorem close_all : iprop(Cx m κ c ∗ bigSep Finset.univ fun p : Fin 4 × Fin 8 => atPos ER (cell c p.1 p.2) 1 ∅ 0)
    ⊢ (|={Set.univ}=> bigSep Finset.univ fun p : Fin 4 × Fin 8 => semVal (cell c p.1 p.2) 0 : sProp 𝕄) := by
  refine (bigSep_with_persistent (Ψ := fun p : Fin 4 × Fin 8 => (iprop(|={Set.univ}=> semVal (cell c p.1 p.2) 0) : sProp 𝕄)) fun p _ => ?_).trans
    (bigSep_fupd _ _)
  iintro ⟨#HC, Ha⟩
  iapply (close_cell m κ c p.1 p.2)
  isplitr; · iapply (Cx_cell m κ c c p.1 p.2) $$ HC
  iexact Ha

/-! What each loop leaves. -/

theorem I1_end (acc : FVec F S512x1 .f32) : I1 m κ c (Scf.trips k0_t1_loop.lb k0_t1_loop.ub k0_t1_loop.st) acc
    ⊢ iprop(⌜acc = acc1 m c 8⌝ ∗ Stg m c 8 ∗ ow c (owY c 0) ∗ bigSep Finset.univ (A1 (F := F) c)) := by
  show I1 m κ c 8 acc ⊢ _
  unfold I1
  rw [upTo_all, owX_8, add_zero]
  iintro ⟨-, H⟩
  iexact H
theorem I2_end (acc : FVec F S512x1 .f32 × FVec F S512x1 .f32) : I2 m κ c (Scf.trips k0_t2_loop.lb k0_t2_loop.ub k0_t2_loop.st) acc
    ⊢ iprop(⌜acc = (acc2 m c 8, accp m c 8)⌝ ∗ (Idle m c 0 ∗ Idle m c 1) ∗ ow c 0
      ∗ (bigSep Finset.univ fun k : Fin 8 => cred (tallyAt (cell c 2 k) () N))
      ∗ (bigSep Finset.univ fun k : Fin 8 => rxAt c k qR (rxFin m c))
      ∗ (bigSep Finset.univ fun k : Fin 8 => eAt c (other c k) fullShare (eFin m c))
      ∗ bigSep Finset.univ fun k : Fin 8 => atPos ER (cell c 1 k) 1 ∅ 0) := by
  show I2 m κ c 8 acc ⊢ _
  unfold I2
  rw [upTo_all, owY_8, A2_all, Stg_16]
  iintro ⟨-, H⟩
  iexact H
theorem I3_end (acc : FVec F S512x1 .f32) : I3 m κ c (Scf.trips k0_t3_loop.lb k0_t3_loop.ub k0_t3_loop.st) acc
    ⊢ iprop(⌜acc = accq m c 8⌝ ∗ ow c 0
      ∗ (bigSep Finset.univ fun k : Fin 8 => ryAt c k fullShare (ryFin m c))
      ∗ bigSep Finset.univ fun k : Fin 8 => atPos ER (cell c 3 k) 1 ∅ 0) := by
  show I3 m κ c 8 acc ⊢ _
  unfold I3
  rw [upTo_all, A3_all]
  iintro ⟨-, H⟩
  iexact H
theorem I4_end (acc : PUnit.{1}) : I4 m κ c (Scf.trips k0_t4_loop.lb k0_t4_loop.ub k0_t4_loop.st) acc
    ⊢ iprop(ow c 0 ∗ (bigSep Finset.univ fun k : Fin 8 => eAt c (mine c k) fullShare (eFin m c))
      ∗ (bigSep Finset.univ fun k : Fin 8 => rxAt c k qL (rxFin m c))
      ∗ (bigSep Finset.univ fun k : Fin 8 => atPos ER (cell c 0 k) 1 ∅ 0)
      ∗ bigSep Finset.univ fun k : Fin 8 => atPos ER (cell c 2 k) 1 ∅ 0) := by
  show I4 m κ c 8 acc ⊢ _
  unfold I4
  rw [upTo_all, A4_all]
  iintro ⟨-, H⟩
  iexact H

theorem tok_rows : (bigSep Finset.univ fun p : Fin 4 × Fin 8 => (dutyTok ER (cell (payer p.1 c) p.1 p.2) 0 true : sProp 𝕄))
    = iprop((bigSep Finset.univ fun k : Fin 8 => dutyTok ER (cell c 0 k) 0 true)
      ∗ (bigSep Finset.univ fun k : Fin 8 => dutyTok ER (cell (partner c) 1 k) 0 true)
      ∗ (bigSep Finset.univ fun k : Fin 8 => dutyTok ER (cell c 2 k) 0 true)
      ∗ bigSep Finset.univ fun k : Fin 8 => dutyTok ER (cell (neighbor c) 3 k) 0 true) :=
  rows fun q k => dutyTok ER (cell (payer q c) q k) 0 true

set_option maxHeartbeats 1000000 in
/-- The body runs from what it takes to what it leaves. -/
theorem a_run (Q : PUnit → sProp 𝕄) :
    iprop(APre m κ c ∗ (APost m c -∗ Q ⟨⟩))
      ⊢ WP c (cc0_body_a (Memref.whole cc0_stg0_0) h0 bigM h1 eM h2 rxM h3 ryM h4 (Memref.whole cc0_stg4_0) h5 wM h6 cc0_scratch1 cc0_scratch2
          cc0_scratch3 cc0_scratch4 cc0_scratch5) Q := by
  rw [cc0_body_a_eq_skeleton]
  unfold cc0_body_a_skel
  rw [WP_bind]
  unfold APre
  iintro ⟨⟨HB, Hat, Htok, Hc1, Hc3, Hbig, He, Hs, Hw, Hv0, Hv1⟩, Hk⟩
  ihave #HI := (BarPre_invs m κ c) $$ HB
  ihave Hat := (Entails.of_eq (rows (F := F) fun q k => atPos ER (cell c q k) 0 ∅ 0)) $$ Hat
  ihave Htok := (Entails.of_eq (tok_rows (F := F) c)) $$ Htok
  icases Hat with ⟨Ha0, Ha1, Ha2, Ha3⟩
  icases Htok with ⟨Ht0, Ht1, Ht2, Ht3⟩
  ihave He := (e_any c) $$ He
  icases He with ⟨He1, He2⟩
  ihave Hi := (idle_start m c) $$ [Hw Hbig Hv0 Hv1]
  · isplitl [Hw]; · iexact Hw
    isplitl [Hbig]; · iexact Hbig
    isplitl [Hv0] <;> iassumption
  icases Hi with ⟨Hi0, Hi1⟩
  iapply (part3_run m κ c h0 h1 h2 h3 h4 h5 h6 _)
  isplitl [HB]; · iexact HB
  iintro %w2 %w5 %w6 %w7 %w25 %w27 %w28 HB
  unfold BarPost
  icases HB with ⟨#HC, HO, Hbar, Hrx, Hry, Hx⟩
  simp only [Prog.lift, Prog.bind_op, Prog.bind_ret, Prog.pure_eq_ret]
  iapply (wp_fetch m c 0 (ck c 0) (bigSl_of (o3 c)) (wSl_of (o2 c)) (wsem_of (o1 c))) $$ Hi0
  iintro Hf
  -- the first loop
  iapply (Scf.wp_for_bind _ _ _ _ _ _ _ _ _ (I1 m κ c) (t1_trip m κ c _ h0 h1 h2 h3 h4 _ h5 h6 w5 w6)) $$ [HO Hf Hi1 He1 Hrx Ht0 Ht1]
  · unfold I1
    rw [Stg_0, upTo_zero, B1_all]
    isplitr; · iexact HC
    isplitr; · ipureintro; rfl
    isplitl [Hf Hi1]; · isplitl [Hf] <;> iassumption
    isplitl [HO]; · iexact HO
    isplitl [He1]; · iexact He1
    isplitl [Hrx]; · iexact Hrx
    isplitl [Ht0] <;> iassumption
  iintro %acc H1
  ihave H1 := (I1_end m κ c acc) $$ H1
  icases H1 with ⟨%hacc, Hst, HO, H1⟩
  subst hacc
  -- the second
  iapply (Scf.wp_for_bind _ _ _ _ _ _ _ _ _ (I2 m κ c) (t2_trip m κ c _ h0 h1 h2 h3 h4 _ h5 h6 w5)) $$ [HO Hst He2 Hry Hc1 Ha1 Ht2 Ht3]
  · unfold I2
    rw [upTo_zero, B2_all]
    isplitr; · iexact HC
    isplitr; · ipureintro; rfl
    isplitl [Hst]; · iexact Hst
    isplitl [HO]; · iexact HO
    isplitl [He2]; · iexact He2
    isplitl [Hry]; · iexact Hry
    isplitl [Hc1]; · iexact Hc1
    isplitl [Ha1]; · iexact Ha1
    isplitl [Ht2] <;> iassumption
  iintro %acc2 H2
  ihave H2 := (I2_end m κ c acc2) $$ H2
  icases H2 with ⟨%hacc2, Hst, HO, Hc2, HrR, He2, Ha1⟩
  subst hacc2
  dsimp only
  -- the third
  iapply (Scf.wp_for_bind _ _ _ _ _ _ _ _ _ (I3 m κ c) (t3_trip m κ c _ h0 h1 h2 h3 h4 _ h5 h6)) $$ [HO Hc3 Ha3]
  · unfold I3
    rw [upTo_zero, B3_all]
    isplitr; · iexact HC
    isplitr; · ipureintro; rfl
    isplitl [HO]; · iexact HO
    isplitl [Hc3] <;> iassumption
  iintro %acc3 H3
  ihave H3 := (I3_end m κ c acc3) $$ H3
  icases H3 with ⟨%hacc3, HO, Hry, Ha3⟩
  subst hacc3
  icases Hs with ⟨%fs, Hs⟩
  simp only [Prog.lift, Prog.bind_op, Prog.bind_ret, Prog.pure_eq_ret]
  iapply (wp_load_s c off00 fs) $$ Hs
  iintro Hs
  iapply (wp_store_s c off00 fs) $$ Hs
  iintro Hs
  -- the last
  iapply (Scf.wp_for_bind _ _ _ _ _ _ _ _ _ (I4 m κ c) (t4_trip m κ c _ h0 h1 h2 h3 h4 _ h5 h6)) $$ [HO H1 Hc2 Ha0 Ha2]
  · unfold I4
    rw [upTo_zero, B4_all]
    isplitr; · iexact HC
    isplitl [HO]; · iexact HO
    isplitl [H1]; · iexact H1
    isplitl [Ha0]; · iexact Ha0
    isplitl [Hc2] <;> iassumption
  iintro %acc4 H4
  ihave H4 := (I4_end m κ c acc4) $$ H4
  icases H4 with ⟨HO, He1, HrL, Ha0, Ha2⟩
  -- every counter back to zero
  rw [wp_ret]
  ihave #HIb := (Invs_bar m κ c) $$ HI
  imod (close_bar m κ c) $$ [Hbar] with Hb0
  · isplitr; · iexact HIb
    iexact Hbar
  imod (close_all m κ c) $$ [Ha0 Ha1 Ha2 Ha3] with Hz
  · isplitr; · iexact HC
    iapply (Entails.of_eq (rows (F := F) fun q k => atPos ER (cell c q k) 1 ∅ 0).symm)
    isplitl [Ha0]; · iexact Ha0
    isplitl [Ha1]; · iexact Ha1
    isplitl [Ha2] <;> iassumption
  imodintro
  iapply Hk
  unfold APost
  ihave Hi := (idle_end m c) $$ Hst
  icases Hi with ⟨Hw, Hbig, Hv0, Hv1⟩
  isplitl [HO]; · iexact HO
  isplitl [Hx]; · iexact Hx
  isplitl [Hbig]; · iexact Hbig
  isplitl [He1 He2]
  · iapply (e_whole m c)
    isplitl [He1] <;> iassumption
  isplitl [HrL HrR]
  · iapply (rx_whole m c)
    isplitl [HrL] <;> iassumption
  isplitl [Hry]; · iapply (Entails.of_eq (ry_split c (ryFin m c)).symm) $$ Hry
  isplitl [Hs]; · iexact Hs
  isplitl [Hw]; · iexact Hw
  isplitl [Hv0]; · iexact Hv0
  isplitl [Hv1]; · iexact Hv1
  isplitl [Hb0] <;> iassumption

end

end Cert.Talk

end
-- ==== Proof.RunB.lean ====
/-
  The second call: every chunk of the output is a chunk of exponentials, the device's own or one that landed, times the
  reciprocal of the row sums.
-/
module

public import proofs.«01_k».proof.Proof.RunA

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

/-! ## The contents of the output -/

/-- Slot j of the 16, as a load reads it. -/
def eRow (c : Dev nD) (j : Fin 16) : Vec F S1x512x512 .bf16 := fun i => eFin m c (ix3 j (i 1) (i 2))
/-- The first column of the row sums. -/
def sCol (c : Dev nD) : Vec F S512x1 .f32 := fun i => sFin m c (ix2 (i 0) ⟨0, by decide⟩)

/-- Columns 512 s to 512 s + 511 of the output. -/
def oCh (c : Dev nD) (s : ℕ) : FVec F S512x512 .f32 :=
  if s / 16 = c.val / 2 then k1_pay2 (sCol m c) (eRow m c ⟨s % 16, Nat.mod_lt _ (by decide)⟩)
  else if s / 8 % 2 = c.val % 2 then k1_pay3 (sCol m c) (rxRow c m ⟨s % 8, Nat.mod_lt _ (by decide)⟩)
  else k1_pay4 (sCol m c) (ryRow c m ⟨s % 8, Nat.mod_lt _ (by decide)⟩)
/-- The output. -/
def oFin (c : Dev nD) : Vec F S512x16384 .f32 :=
  fun i => oCh m c ((i 1).val / 512) (ix2 (i 0) ⟨(i 1).val % 512, Nat.mod_lt _ (by decide)⟩)

/-! ## The staged buffers -/

abbrev e1M : Memref sig .tc .vmem S16x512x512 .bf16 := Memref.whole cc1_stg0_0
abbrev rx1M : Memref sig .tc .vmem S8x512x512 .bf16 := Memref.whole cc1_stg1_0
abbrev ry1M : Memref sig .tc .vmem S8x512x512 .bf16 := Memref.whole cc1_stg2_0
abbrev s1M : Memref sig .tc .vmem S512x128 .f32 := Memref.whole cc1_stg3_0
abbrev oM : Memref sig .tc .vmem S512x16384 .f32 := Memref.whole cc1_stg4_0
abbrev e1Loc (c : Dev nD) : Loc nD τ sig := (c : Thread nD τ).loc cc1_stg0_0
abbrev rx1Loc (c : Dev nD) : Loc nD τ sig := (c : Thread nD τ).loc cc1_stg1_0
abbrev ry1Loc (c : Dev nD) : Loc nD τ sig := (c : Thread nD τ).loc cc1_stg2_0
abbrev s1Loc (c : Dev nD) : Loc nD τ sig := (c : Thread nD τ).loc cc1_stg3_0
abbrev oLoc (c : Dev nD) : Loc nD τ sig := (c : Thread nD τ).loc cc1_stg4_0

theorem inbO (s : Fin 32) : ∀ a, (![0, 512 * s.val] : Fin 2 → Nat) a + S512x512.size a ≤ S512x16384.size a := by
  revert s; decide
abbrev oRect (s : Fin 32) : Rect S512x16384 := Rect.unit (s := S512x16384) ![0, 512 * s.val] S512x512.size (inbO s)

theorem mem_oRect (s : Fin 32) (i : S512x16384.Idx) : i ∈ (oRect s).set ↔ (i 1).val / 512 = s.val := by
  rw [Rect.mem_set_unit]
  constructor
  · intro h
    have h1 : 512 * s.val ≤ (i 1).val ∧ (i 1).val < 512 * s.val + 512 := h 1
    omega
  · intro h x
    match x with
    | ⟨0, _⟩ => exact ⟨Nat.zero_le _, by have h1 : (i 0).val < 512 := (i 0).isLt; show (i 0).val < 0 + 512; omega⟩
    | ⟨1, _⟩ => exact ⟨by show 512 * s.val ≤ (i 1).val; omega, by show (i 1).val < 512 * s.val + 512; omega⟩

theorem emb_oRect (s : Fin 32) (x : S512x512.Idx) :
    (oRect s).emb x = ix2 (x 0) ⟨512 * s.val + (x 1).val, by have h : (x 1).val < 512 := (x 1).isLt; have := s.isLt; omega⟩ := by
  refine funext fun a => Fin.ext ?_
  match a with
  | ⟨0, _⟩ =>
    exact (ValueKit.rect_emb_unit_val (s := S512x16384) ![0, 512 * s.val] S512x512.size (inbO s) x 0).trans (Nat.zero_add _)
  | ⟨1, _⟩ => exact ValueKit.rect_emb_unit_val (s := S512x16384) ![0, 512 * s.val] S512x512.size (inbO s) x 1

theorem oFin_read (c : Dev nD) (s : Fin 32) (x : S512x512.Idx) : (oM.access (oRect s)).read (Elt F) (oFin m c) x = oCh m c s.val x := by
  refine (congrArg (oFin m c) (emb_oRect s x)).trans ?_
  have h : (x 1).val < 512 := (x 1).isLt
  show oCh m c ((512 * s.val + (x 1).val) / 512) (ix2 (x 0) ⟨(512 * s.val + (x 1).val) % 512, Nat.mod_lt _ (by decide)⟩) = _
  rw [show (512 * s.val + (x 1).val) / 512 = s.val by omega,
    show (⟨(512 * s.val + (x 1).val) % 512, Nat.mod_lt _ (by decide)⟩ : Fin 512) = x 1 from Fin.ext (by show (512 * s.val + (x 1).val) % 512 = (x 1).val; omega)]
  exact congrArg _ (eq_ix2 x).symm

/-- The output buffer once stripe s is stored. -/
theorem oStore (c : Dev nD) (s : Fin 32) (f : S512x16384.Idx → Elt F .f32) (i : S512x16384.Idx) :
    (oM.access (oRect s)).write (Elt F) f (oCh m c s.val) Finset.univ i
      = if (i 1).val / 512 = s.val then oFin m c i else f i := by
  have hset : (oM.access (oRect s)).set = (oRect s).set := View.set_slice_whole cc1_stg4_0 _
  split
  · next h =>
    exact write_eq_on (oM.access (oRect s)) f (oFin m c) (oCh m c s.val) (funext fun x => oFin_read m c s x) i
      (by rw [hset]; exact (mem_oRect s i).mpr h)
  · next h =>
    refine View.write_of_not_mem _ _ _ ?_
    intro hi
    exact h ((mem_oRect s i).mp (by rw [← hset]; exact hi))

section

variable (c : Dev nD)

theorem wp_load_e1 (k : Fin 16) {α : Type} {off : Fin 3 → Nat} (hoff : off = ![k.val, 0, 0]) {inb}
    {hl : e1M.view.LoadsAt (Rect.unit (s := S16x512x512) off S1x512x512.size inb).toLoadRect}
    {kk : (S1x512x512.Idx → Elt F .bf16) → Prog (TpuEff nD τ sig (Elt F) Λ₀ .tc) α} {Q : α → sProp 𝕄} :
    (e1Loc c ↦{fullShare} eFin m c : sProp 𝕄) ⊢ iprop(((e1Loc c ↦{fullShare} eFin m c) -∗ WP c (kk (eRow m c k)) Q)
        -∗ WP c (.op (.load e1M (Rect.unit (s := S16x512x512) off S1x512x512.size inb).toLoadRect hl) kk) Q) := by
  subst hoff
  iintro H Hk
  iapply (wp_load 𝒱₀ (c : Thread nD τ) none Set.univ (Q := Q) (m := e1M)
    (r := (Rect.unit (s := S16x512x512) ![k.val, 0, 0] S1x512x512.size inb).toLoadRect) (hl := hl) (k := kk) (S := Finset.univ)
    (q := fullShare) (f := eFin m c) (Finset.subset_univ _)) $$ H
  iintro H
  rw [show e1M.view.readAt (Elt F) (Rect.unit (s := S16x512x512) ![k.val, 0, 0] S1x512x512.size inb).toLoadRect (eFin m c) = eRow m c k from
    funext fun x => congrArg (eFin m c) (emb_lead k (inb16 k) x)]
  iapply Hk $$ H
theorem wp_load_rx1 (k : Fin 8) {α : Type} {off : Fin 3 → Nat} (hoff : off = ![k.val, 0, 0]) {inb}
    {hl : rx1M.view.LoadsAt (Rect.unit (s := S8x512x512) off S1x512x512.size inb).toLoadRect}
    {kk : (S1x512x512.Idx → Elt F .bf16) → Prog (TpuEff nD τ sig (Elt F) Λ₀ .tc) α} {Q : α → sProp 𝕄} :
    (rx1Loc c ↦{fullShare} rxFin m c : sProp 𝕄) ⊢ iprop(((rx1Loc c ↦{fullShare} rxFin m c) -∗ WP c (kk (rxRow c m k)) Q)
        -∗ WP c (.op (.load rx1M (Rect.unit (s := S8x512x512) off S1x512x512.size inb).toLoadRect hl) kk) Q) := by
  subst hoff
  iintro H Hk
  iapply (wp_load 𝒱₀ (c : Thread nD τ) none Set.univ (Q := Q) (m := rx1M)
    (r := (Rect.unit (s := S8x512x512) ![k.val, 0, 0] S1x512x512.size inb).toLoadRect) (hl := hl) (k := kk) (S := Finset.univ)
    (q := fullShare) (f := rxFin m c) (Finset.subset_univ _)) $$ H
  iintro H
  rw [show rx1M.view.readAt (Elt F) (Rect.unit (s := S8x512x512) ![k.val, 0, 0] S1x512x512.size inb).toLoadRect (rxFin m c) = rxRow c m k from
    funext fun x => congrArg (rxFin m c) (emb_lead k (inb8 k) x)]
  iapply Hk $$ H
theorem wp_load_ry1 (k : Fin 8) {α : Type} {off : Fin 3 → Nat} (hoff : off = ![k.val, 0, 0]) {inb}
    {hl : ry1M.view.LoadsAt (Rect.unit (s := S8x512x512) off S1x512x512.size inb).toLoadRect}
    {kk : (S1x512x512.Idx → Elt F .bf16) → Prog (TpuEff nD τ sig (Elt F) Λ₀ .tc) α} {Q : α → sProp 𝕄} :
    (ry1Loc c ↦{fullShare} ryFin m c : sProp 𝕄) ⊢ iprop(((ry1Loc c ↦{fullShare} ryFin m c) -∗ WP c (kk (ryRow c m k)) Q)
        -∗ WP c (.op (.load ry1M (Rect.unit (s := S8x512x512) off S1x512x512.size inb).toLoadRect hl) kk) Q) := by
  subst hoff
  iintro H Hk
  iapply (wp_load 𝒱₀ (c : Thread nD τ) none Set.univ (Q := Q) (m := ry1M)
    (r := (Rect.unit (s := S8x512x512) ![k.val, 0, 0] S1x512x512.size inb).toLoadRect) (hl := hl) (k := kk) (S := Finset.univ)
    (q := fullShare) (f := ryFin m c) (Finset.subset_univ _)) $$ H
  iintro H
  rw [show ry1M.view.readAt (Elt F) (Rect.unit (s := S8x512x512) ![k.val, 0, 0] S1x512x512.size inb).toLoadRect (ryFin m c) = ryRow c m k from
    funext fun x => congrArg (ryFin m c) (emb_lead k (inb8 k) x)]
  iapply Hk $$ H
theorem wp_load_s1 {α : Type} {inb}
    {hl : s1M.view.LoadsAt (Rect.unit (s := S512x128) ![0, 0] S512x1.size inb).toLoadRect}
    {kk : (S512x1.Idx → Elt F .f32) → Prog (TpuEff nD τ sig (Elt F) Λ₀ .tc) α} {Q : α → sProp 𝕄} :
    (s1Loc c ↦{fullShare} sFin m c : sProp 𝕄) ⊢ iprop(((s1Loc c ↦{fullShare} sFin m c) -∗ WP c (kk (sCol m c)) Q)
        -∗ WP c (.op (.load s1M (Rect.unit (s := S512x128) ![0, 0] S512x1.size inb).toLoadRect hl) kk) Q) := by
  iintro H Hk
  iapply (wp_load 𝒱₀ (c : Thread nD τ) none Set.univ (Q := Q) (m := s1M)
    (r := (Rect.unit (s := S512x128) ![0, 0] S512x1.size inb).toLoadRect) (hl := hl) (k := kk) (S := Finset.univ)
    (q := fullShare) (f := sFin m c) (Finset.subset_univ _)) $$ H
  iintro H
  rw [show s1M.view.readAt (Elt F) (Rect.unit (s := S512x128) ![0, 0] S512x1.size inb).toLoadRect (sFin m c) = sCol m c from
    funext fun x => congrArg (sFin m c) (funext fun a => Fin.ext (by
      match a with
      | ⟨0, _⟩ => exact (ValueKit.rect_emb_unit_val (s := S512x128) ![0, 0] S512x1.size inb x 0).trans (Nat.zero_add _)
      | ⟨1, _⟩ =>
        refine (ValueKit.rect_emb_unit_val (s := S512x128) ![0, 0] S512x1.size inb x 1).trans ?_
        have h : (x 1).val < 1 := (x 1).isLt
        show 0 + (x 1).val = 0
        omega))]
  iapply Hk $$ H

/-- A load of the output, its value not used; -/
theorem wp_load_o {α : Type} {r : LoadRect S512x16384} {hl : oM.view.LoadsAt r}
    {kk : (r.shape.Idx → Elt F .f32) → Prog (TpuEff nD τ sig (Elt F) Λ₀ .tc) α} {Q : α → sProp 𝕄} (f : Buf (Elt F) (oLoc c)) :
    (oLoc c ↦{fullShare} f : sProp 𝕄) ⊢ iprop((∀ v, (oLoc c ↦{fullShare} f) -∗ WP c (kk v) Q)
        -∗ WP c (.op (.load oM r hl) kk) Q) := by
  iintro H Hk
  iapply (wp_load 𝒱₀ (c : Thread nD τ) none Set.univ (Q := Q) (m := oM)
    (r := r) (hl := hl) (k := kk) (S := Finset.univ) (q := fullShare) (f := f) (Finset.subset_univ _)) $$ H
  iintro H
  iapply Hk $$ H
/-- the store of stripe s. -/
theorem wp_store_o (s : Fin 32) {α : Type} {off : Fin 2 → Nat} (hoff : off = ![0, 512 * s.val]) {inb} {w : S512x512.Idx → Elt F .f32}
    (hw : w = oCh m c s.val)
    {hx : (oM.access (Rect.unit (s := S512x16384) off S512x512.size inb)).Stores Finset.univ} {hm}
    {kk : PUnit → Prog (TpuEff nD τ sig (Elt F) Λ₀ .tc) α} {Q : α → sProp 𝕄} (f : Buf (Elt F) (oLoc c)) :
    (oLoc c ↦{fullShare} f : sProp 𝕄)
      ⊢ iprop((∀ f' : Buf (Elt F) (oLoc c), ⌜∀ i : S512x16384.Idx, f' i = if (i 1).val / 512 = s.val then oFin m c i else f i⌝
            -∗ (oLoc c ↦{fullShare} f') -∗ WP c (kk ⟨⟩) Q)
        -∗ WP c (.op (.store oM (Rect.unit (s := S512x16384) off S512x512.size inb) w Finset.univ hx hm) kk) Q) := by
  subst hoff hw
  iintro H Hk
  iapply (wp_store 𝒱₀ (c : Thread nD τ) none Set.univ (Q := Q) (m := oM) (r := oRect s)
    (S := Finset.univ) (f := f) (Finset.subset_univ _)) $$ H
  iintro H
  iapply Hk $$ [] H
  ipureintro
  exact oStore m c s f

/-! ## The two loops -/

variable (h0 : e1M.IsWhole) (h1 : rx1M.IsWhole) (h2 : ry1M.IsWhole) (h3 : s1M.IsWhole) (h4 : oM.IsWhole)

/-- The output buffer, final on the stripes that satisfy p. -/
def oOn (p : ℕ → Prop) : sProp 𝕄 :=
  iprop(∃ f : Buf (Elt F) (oLoc c), ⌜∀ i : S512x16384.Idx, p ((i 1).val / 512) → f i = oFin m c i⌝ ∗ (oLoc c ↦{fullShare} f))

/-- The first loop's invariant: the device's own stripes, up to the k-th, are final. -/
def J1 (k : ℕ) (_ : PUnit.{1}) : sProp 𝕄 :=
  iprop((e1Loc c ↦{fullShare} eFin m c) ∗ oOn m c fun s => s / 16 = c.val / 2 ∧ s % 16 < k)
/-- The second's: the others too, of each of the two landing buffers up to the k-th. -/
def J2 (k : ℕ) (_ : PUnit.{1}) : sProp 𝕄 :=
  iprop((rx1Loc c ↦{fullShare} rxFin m c) ∗ (ry1Loc c ↦{fullShare} ryFin m c)
    ∗ oOn m c fun s => s / 16 = c.val / 2 ∨ s % 8 < k)

theorem trips1 : k1_t1_loop.trips = 16 := by decide
theorem trips2 : k1_t2_loop.trips = 8 := by decide

theorem p2 (k : Fin k1_t1_loop.trips) : ∃ s : Fin 32, k1_off2 c k = ![0, 512 * s.val] ∧ s.val / 16 = c.val / 2 ∧ s.val % 16 = k.val := by
  have hk : k.val < 16 := trips1 ▸ k.isLt
  have hc : c.val < 4 := c.isLt
  refine ⟨⟨16 * (c.val / 2) + k.val, by omega⟩, ?_, by show (16 * (c.val / 2) + k.val) / 16 = _; omega, by show (16 * (c.val / 2) + k.val) % 16 = _; omega⟩
  rw [k1_off2_eq]
  show ![0, 8192 * (c.val / 2) + 512 * k.val] = ![0, 512 * (16 * (c.val / 2) + k.val)]
  rw [show 8192 * (c.val / 2) + 512 * k.val = 512 * (16 * (c.val / 2) + k.val) by omega]
theorem p4 : ∀ (c : Dev nD) (k : Fin k1_t2_loop.trips), ∃ s : Fin 32, k1_off4 c k = ![0, 512 * s.val] ∧ ¬ s.val / 16 = c.val / 2 ∧ s.val / 8 % 2 = c.val % 2 ∧ s.val % 8 = k.val := by
  decide +kernel
theorem p5 : ∀ (c : Dev nD) (k : Fin k1_t2_loop.trips), ∃ s : Fin 32, k1_off5 c k = ![0, 512 * s.val] ∧ ¬ s.val / 16 = c.val / 2 ∧ ¬ s.val / 8 % 2 = c.val % 2 ∧ s.val % 8 = k.val := by
  decide +kernel

theorem u1_trip (k : Fin k1_t1_loop.trips) (u : PUnit.{1}) :
    J1 m c k.val u ⊢ WP c (k1_t1_body e1M h0 rx1M h1 ry1M h2 s1M h3 oM h4 c (sCol m c) k u) (J1 m c (k.val + 1)) := by
  have hk : k.val < 16 := trips1 ▸ k.isLt
  obtain ⟨s, hs, hs1, hs2⟩ := p2 c k
  unfold J1 oOn k1_t1_body
  iintro ⟨He, %f, %hf, Ho⟩
  simp only [Prog.lift, Prog.bind_op, Prog.bind_ret, Prog.pure_eq_ret]
  iapply (wp_load_e1 m c ⟨k.val, hk⟩ (k1_off1_eq k)) $$ He
  iintro He
  iapply (wp_load_o c f) $$ Ho
  iintro %v Ho
  iapply (wp_store_o m c s hs (by
    unfold oCh; rw [if_pos hs1]; congr 2; exact Fin.ext hs2.symm) f) $$ Ho
  iintro %f' %hf' Ho
  rw [WP_ret]
  imodintro
  isplitl [He]; · iexact He
  iexists f'
  isplitr
  · ipureintro
    intro i hi
    rw [hf']
    split
    · rfl
    · next hne => exact hf i ⟨hi.1, by have := hi.2; omega⟩
  iexact Ho

/-- A stripe of the other half whose number is not past k is one of the two stored in trip k or was stored before. -/
theorem stripe_done {t s s' x y k : ℕ} (ht : t < 32) (hs : s < 32) (hs' : s' < 32) (hx : x < 2)
    (h1 : ¬ s / 16 = x) (h2 : s / 8 % 2 = y % 2) (h3 : s % 8 = k) (h1' : ¬ s' / 16 = x) (h2' : ¬ s' / 8 % 2 = y % 2) (h3' : s' % 8 = k)
    (hne : ¬ t = s) (hne' : ¬ t = s') (h : t / 16 = x ∨ t % 8 < k + 1) : t / 16 = x ∨ t % 8 < k := by
  by_contra hc
  obtain ⟨hc1, hc2⟩ := not_or.mp hc
  have hk : t % 8 = k := by rcases h with h | h <;> omega
  rcases Nat.decEq (t / 8 % 2) (y % 2) with h4 | h4
  · exact hne' (by omega)
  · exact hne (by omega)

theorem u2_trip (k : Fin k1_t2_loop.trips) (u : PUnit.{1}) :
    J2 m c k.val u ⊢ WP c (k1_t2_body e1M h0 rx1M h1 ry1M h2 s1M h3 oM h4 c (sCol m c) k u) (J2 m c (k.val + 1)) := by
  have hk : k.val < 8 := trips2 ▸ k.isLt
  obtain ⟨s, hs, hs1, hs2, hs3⟩ := p4 c k
  obtain ⟨s', ht, ht1, ht2, ht3⟩ := p5 c k
  unfold J2 oOn k1_t2_body
  iintro ⟨Hx, Hy, %f, %hf, Ho⟩
  simp only [Prog.lift, Prog.bind_op, Prog.bind_ret, Prog.pure_eq_ret]
  iapply (wp_load_rx1 m c ⟨k.val, hk⟩ (k1_off3_eq k)) $$ Hx
  iintro Hx
  iapply (wp_load_o c f) $$ Ho
  iintro %v Ho
  iapply (wp_store_o m c s hs (by
    unfold oCh; rw [if_neg hs1, if_pos hs2]; congr 2; exact Fin.ext hs3.symm) f) $$ Ho
  iintro %f1 %hf1 Ho
  iapply (wp_load_ry1 m c ⟨k.val, hk⟩ (k1_off3_eq k)) $$ Hy
  iintro Hy
  iapply (wp_load_o c f1) $$ Ho
  iintro %v' Ho
  iapply (wp_store_o m c s' ht (by
    unfold oCh; rw [if_neg ht1, if_neg ht2]; congr 2; exact Fin.ext ht3.symm) f1) $$ Ho
  iintro %f2 %hf2 Ho
  rw [WP_ret]
  imodintro
  isplitl [Hx]; · iexact Hx
  isplitl [Hy]; · iexact Hy
  iexists f2
  isplitr
  · ipureintro
    intro i hi
    rw [hf2]
    split
    · rfl
    · next hne' =>
      rw [hf1]
      split
      · rfl
      · next hne =>
        have hi1 : (i 1).val < 16384 := (i 1).isLt
        have hc : c.val < 4 := c.isLt
        exact hf i (stripe_done (by omega) s.isLt s'.isLt (by omega) hs1 hs2 hs3 ht1 ht2 ht3 hne hne' hi)
  iexact Ho

/-- What the second call's body takes and leaves: its four inputs as they are, -/
def BIn : sProp 𝕄 :=
  iprop((e1Loc c ↦{fullShare} eFin m c) ∗ (rx1Loc c ↦{fullShare} rxFin m c) ∗ (ry1Loc c ↦{fullShare} ryFin m c)
    ∗ (s1Loc c ↦{fullShare} sFin m c))

/-- the output computed. -/
theorem b_run (Q : PUnit → sProp 𝕄) :
    iprop(BIn m c ∗ (∃ f, oLoc c ↦{fullShare} f) ∗ ((BIn m c ∗ (oLoc c ↦{fullShare} oFin m c)) -∗ Q ⟨⟩))
      ⊢ WP c (cc1_body_b e1M h0 rx1M h1 ry1M h2 s1M h3 oM h4) Q := by
  rw [cc1_body_b_eq_skeleton]
  unfold BIn cc1_body_b_skel
  iintro ⟨⟨He, Hx, Hy, Hs⟩, ⟨%f, Ho⟩, Hk⟩
  simp only [Prog.lift, Prog.bind_op, Prog.bind_ret, Prog.pure_eq_ret, wp_deviceId]
  iapply (wp_load_s1 m c) $$ Hs
  iintro Hs
  iapply (Scf.wp_for_bind _ _ _ _ _ _ _ _ _ (J1 m c) (u1_trip m c h0 h1 h2 h3 h4)) $$ [He Ho]
  · unfold J1 oOn
    isplitl [He]; · iexact He
    iexists f
    isplitr
    · ipureintro; intro i hi; exact absurd hi.2 (Nat.not_lt_zero _)
    iexact Ho
  iintro %acc H1
  unfold J1 oOn
  icases H1 with ⟨He, %f1, %hf1, Ho⟩
  iapply (Scf.wp_for_bind _ _ _ _ _ _ _ _ _ (J2 m c) (u2_trip m c h0 h1 h2 h3 h4)) $$ [Hx Hy Ho]
  · unfold J2 oOn
    isplitl [Hx]; · iexact Hx
    isplitl [Hy]; · iexact Hy
    iexists f1
    isplitr
    · ipureintro; intro i hi
      refine hf1 i ⟨hi.resolve_right (Nat.not_lt_zero _), ?_⟩
      show _ < k1_t1_loop.trips
      rw [trips1]; exact Nat.mod_lt _ (by decide)
    iexact Ho
  iintro %acc2 H2
  unfold J2 oOn
  icases H2 with ⟨Hx, Hy, %f2, %hf2, Ho⟩
  rw [wp_ret]
  imodintro
  iapply Hk
  isplitl [He Hx Hy Hs]
  · isplitl [He]; · iexact He
    isplitl [Hx]; · iexact Hx
    isplitl [Hy] <;> iassumption
  have e : f2 = oFin m c := funext fun i => hf2 i (Or.inr (by
    show _ < k1_t2_loop.trips
    rw [trips2]; exact Nat.mod_lt _ (by decide)))
  subst e
  iexact Ho

end

end Cert.Talk

end
-- ==== Proof.Data.lean ====
/-
  What the two calls hold, as the regions take it: each window's contents at entry and after the body, what the body's
  invariant is before and after its one point, and that each body keeps it.
-/
module

public import proofs.«01_k».proof.Proof.RunB
public import proofs.«01_k».proof.Proof.Gen.KernelIdeal.Points
public import Idealize.ShloMosaic.Lib.Pipeline.Frame
public import Idealize.ShloMosaic.Lib.Pipeline.FrameTail
public import Idealize.ShloMosaic.Lib.Pipeline.ValueKit.Geometry

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

abbrev adm : (p : Fin 2) → (pcfgs (F := F) p).Adm := fun p => (cfgs p).toPCfg_adm

/-- Device c's unscoped buffers at launch. -/
abbrev V0 (c : Dev nD) : Valuation τ sig (Elt F) := fun b => m (c, b)

/-! ## What the talking call's body is entered with -/

/-- The part of the protocol's resources that the launch deals and that needs no opening: the invariants, the rights to
    signal, the barrier's position and credit, the rights to pay, the credit for what the peers pay. -/
def Ghost (κ : GSem nD τ sig → ℕ) (c : Dev nD) : sProp 𝕄 :=
  iprop(Invs m κ
    ∗ dutyTok ER (barCell (partner c)) 0 true ∗ dutyTok ER (barCell (neighbor c)) 0 false
    ∗ reached ER (barCell (partner c)) 0 ∗ reached ER (barCell (neighbor c)) 0
    ∗ cred (tallyAt (barCell c) () 2) ∗ atPos ER (barCell c) 0 ∅ 0
    ∗ (bigSep Finset.univ fun p : Fin 4 × Fin 8 => dutyTok ER (cell (payer p.1 c) p.1 p.2) 0 true)
    ∗ (bigSep Finset.univ fun k : Fin 8 => cred (tallyAt (cell c 1 k) () N))
    ∗ (bigSep Finset.univ fun k : Fin 8 => cred (tallyAt (cell c 3 k) () N)))
/-- As the launch deals it: the cells of the four arrays not open yet. -/
def Tk (c : Dev nD) : sProp 𝕄 :=
  iprop(∃ κ, Ghost m κ c ∗ bigSep Finset.univ fun p : Fin 4 × Fin 8 => openTok ER (cell c p.1 p.2))
/-- As the body takes it: open, and the two semaphores of the double buffer at zero. -/
def Xk (c : Dev nD) : sProp 𝕄 :=
  iprop((∃ κ, Ghost m κ c
      ∗ bigSep Finset.univ fun p : Fin 4 × Fin 8 => iprop(atPos ER (cell c p.1 p.2) 0 ∅ 0 ∗ reached ER (cell c p.1 p.2) 0))
    ∗ levAts L lv ∗ semVal ((c : Thread nD τ), .dma (wsm 0)) 0 ∗ semVal ((c : Thread nD τ), .dma (wsm 1)) 0)
/-- All the body's own semaphores, at zero. -/
def Zs (c : Dev nD) : sProp 𝕄 :=
  iprop((semVal ((c : Thread nD τ), .dma (wsm 0)) 0 ∗ semVal ((c : Thread nD τ), .dma (wsm 1)) 0)
    ∗ bigSep Finset.univ fun p : Fin 4 × Fin 8 => semVal (cell c p.1 p.2) 0)

/-! ## The first call's data -/

/-- What the first call's windows end with. -/
def aft0 (c : Dev nD) : (w : Fin cfg0.W) → (cfg0.win w).block.Idx → Elt F (cfg0.win w).elt
  | 0 => xIn m c
  | 1 => eFin m c
  | 2 => rxFin m c
  | 3 => ryFin m c
  | 4 => sFin m c
  | ⟨_ + 5, h⟩ => absurd h (Nat.not_lt.2 (Nat.le_add_left _ _))

def Φ0 (c : Dev nD) (first : Prop) [Decidable first] : sProp 𝕄 :=
  if first then
    iprop(Xk m c ∗ (bigLoc c ↦{fullShare} wIn m c) ∗ Pipeline.scopedRest spec0 c ∗ ∃ r, prngReg c r)
  else
    iprop((Zs c ∗ semVal (barCell c) 0) ∗ (bigLoc c ↦{fullShare} wIn m c) ∗ Pipeline.scopedRest spec0 c ∗ ∃ r, prngReg c r)

def dat0 (c : Dev nD) : Dat τ (Elt F) Unit ℕ UU ℕ cfg0 c where
  A w := V0 m c (Proc.devRef .tc (Pipeline.arrRef spec0 w))
  after w _ := aft0 m c w
  Φ t := Φ0 m c (t.val = 0)
  q _ := fullShare
  owed t := if t.val = 0 then O₀ c else 0

/-- The buffers between the calls. -/
def V1 (c : Dev nD) : Valuation τ sig (Elt F) := Pipeline.afterRegion (dat0 m c) (V0 m c)

theorem before0 (c : Dev nD) (t : Fin cfg0.N) (d) : (dat0 m c).before 0 t d = xIn m c := by
  rw [Pipeline.Dat.before_fetched _ _ _ (fetch0_0 t)]
  funext i
  unfold Dat.fetched Dat.blockOf
  dsimp only [dat0]
  show m ((c : Dev nD), Proc.devRef .tc main_arg0) _ = m ((c : Dev nD), Proc.devRef .tc main_arg0) i
  congr 1
  funext a
  exact Fin.ext (by show 0 * _ + 1 * (i a).val = (i a).val; omega)

theorem V1_0 (c : Dev nD) : V1 m c (Proc.devRef .tc main_v1_0) = eFin m c :=
  (Pipeline.afterRegion_arr (dat0 m c) (V0 m c) winFacts0.arr_inj 1).trans
    ((dat0 m c).arrAt_eq_of_after_last 1 t0_0 (by decide +kernel) (eFin m c) (fun _ => rfl))
theorem V1_1 (c : Dev nD) : V1 m c (Proc.devRef .tc main_v1_1) = rxFin m c :=
  (Pipeline.afterRegion_arr (dat0 m c) (V0 m c) winFacts0.arr_inj 2).trans
    ((dat0 m c).arrAt_eq_of_after_last 2 t0_0 (by decide +kernel) (rxFin m c) (fun _ => rfl))
theorem V1_2 (c : Dev nD) : V1 m c (Proc.devRef .tc main_v1_2) = ryFin m c :=
  (Pipeline.afterRegion_arr (dat0 m c) (V0 m c) winFacts0.arr_inj 3).trans
    ((dat0 m c).arrAt_eq_of_after_last 3 t0_0 (by decide +kernel) (ryFin m c) (fun _ => rfl))
theorem V1_3 (c : Dev nD) : V1 m c (Proc.devRef .tc main_v1_3) = sFin m c :=
  (Pipeline.afterRegion_arr (dat0 m c) (V0 m c) winFacts0.arr_inj 4).trans
    ((dat0 m c).arrAt_eq_of_after_last 4 t0_0 (by decide +kernel) (sFin m c) (fun _ => rfl))
theorem V1_arg0 (c : Dev nD) : V1 m c (Proc.devRef .tc main_arg0) = xIn m c :=
  (Pipeline.afterRegion_arr (dat0 m c) (V0 m c) winFacts0.arr_inj 0).trans ((dat0 m c).arrAt_in 0 rfl cfg0.N)
theorem V1_arg1 (c : Dev nD) : V1 m c (Proc.devRef .tc main_arg1) = wIn m c :=
  Pipeline.afterRegion_of_not_arr (dat0 m c) (V0 m c) (b := main_arg1) (by decide)

/-! ## The second call's data -/

/-- What the second call's windows end with. -/
def aft1 (c : Dev nD) : (w : Fin cfg1.W) → (cfg1.win w).block.Idx → Elt F (cfg1.win w).elt
  | 0 => eFin m c
  | 1 => rxFin m c
  | 2 => ryFin m c
  | 3 => sFin m c
  | 4 => oFin m c
  | ⟨_ + 5, h⟩ => absurd h (Nat.not_lt.2 (Nat.le_add_left _ _))

def dat1 (c : Dev nD) : Dat τ (Elt F) Unit ℕ UU ℕ cfg1 c where
  A w := V1 m c (Proc.devRef .tc (Pipeline.arrRef spec1 w))
  after w _ := aft1 m c w
  Φ _ := Pipeline.scopedRest spec1 c
  q _ := fullShare
  owed _ := 0

/-- The buffers at the end. -/
def V2 (c : Dev nD) : Valuation τ sig (Elt F) := Pipeline.afterRegion (dat1 m c) (V1 m c)

theorem V2_out (c : Dev nD) : V2 m c (Proc.devRef .tc main_v2) = oFin m c :=
  (Pipeline.afterRegion_arr (dat1 m c) (V1 m c) winFacts1.arr_inj 4).trans
    ((dat1 m c).arrAt_eq_of_after_last 4 t1_0 (by decide +kernel) (oFin m c) (fun _ => rfl))
theorem V2_arg0 (c : Dev nD) : V2 m c (Proc.devRef .tc main_arg0) = xIn m c :=
  (Pipeline.afterRegion_of_not_arr (dat1 m c) (V1 m c) (b := main_arg0) (by decide)).trans (V1_arg0 m c)
theorem V2_arg1 (c : Dev nD) : V2 m c (Proc.devRef .tc main_arg1) = wIn m c :=
  (Pipeline.afterRegion_of_not_arr (dat1 m c) (V1 m c) (b := main_arg1) (by decide)).trans (V1_arg1 m c)

theorem before1_0 (c : Dev nD) (t : Fin cfg1.N) (d) : (dat1 m c).before 0 t d = eFin m c := by
  rw [Pipeline.Dat.before_fetched _ _ _ (fetch1_0 t), ← V1_0]
  funext i
  unfold Dat.fetched Dat.blockOf
  dsimp only [dat1]
  show V1 m c (Proc.devRef .tc main_v1_0) _ = V1 m c (Proc.devRef .tc main_v1_0) i
  congr 1
  funext a
  exact Fin.ext (by show 0 * _ + 1 * (i a).val = (i a).val; omega)
theorem before1_1 (c : Dev nD) (t : Fin cfg1.N) (d) : (dat1 m c).before 1 t d = rxFin m c := by
  rw [Pipeline.Dat.before_fetched _ _ _ (fetch1_1 t), ← V1_1]
  funext i
  unfold Dat.fetched Dat.blockOf
  dsimp only [dat1]
  show V1 m c (Proc.devRef .tc main_v1_1) _ = V1 m c (Proc.devRef .tc main_v1_1) i
  congr 1
  funext a
  exact Fin.ext (by show 0 * _ + 1 * (i a).val = (i a).val; omega)
theorem before1_2 (c : Dev nD) (t : Fin cfg1.N) (d) : (dat1 m c).before 2 t d = ryFin m c := by
  rw [Pipeline.Dat.before_fetched _ _ _ (fetch1_2 t), ← V1_2]
  funext i
  unfold Dat.fetched Dat.blockOf
  dsimp only [dat1]
  show V1 m c (Proc.devRef .tc main_v1_2) _ = V1 m c (Proc.devRef .tc main_v1_2) i
  congr 1
  funext a
  exact Fin.ext (by show 0 * _ + 1 * (i a).val = (i a).val; omega)
theorem before1_3 (c : Dev nD) (t : Fin cfg1.N) (d) : (dat1 m c).before 3 t d = sFin m c := by
  rw [Pipeline.Dat.before_fetched _ _ _ (fetch1_3 t), ← V1_3]
  funext i
  unfold Dat.fetched Dat.blockOf
  dsimp only [dat1]
  show V1 m c (Proc.devRef .tc main_v1_3) _ = V1 m c (Proc.devRef .tc main_v1_3) i
  congr 1
  funext a
  exact Fin.ext (by show 0 * _ + 1 * (i a).val = (i a).val; omega)

/-! ## The bodies keep their invariants -/

theorem owesAt_intro {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (ow c O : sProp 𝕄) ⊢ dat.owesAt () t := by
  unfold ow Dat.owesAt Pipeline.owesWithin Dat.bound
  rw [h0, hr]
  iintro ⟨%W, HO⟩
  iexists W
  isplitr
  · ipureintro; exact fun _ _ => Or.inl trivial
  · iexact HO
theorem owesAt_elim {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ ow c O := by
  unfold ow Dat.owesAt Pipeline.owesWithin
  rw [h0]
  iintro ⟨%W, -, HO⟩
  iexists W
  iexact HO

/-- A window's buffer at contents X is the buffer held at X. -/
theorem own (c : Dev nD) (b : Ref sig .tc) (X : b.ty.Contents (Elt F)) :
    (owns (c : Thread nD τ) (Memref.whole b) fullShare X : sProp 𝕄) = ((c : Thread nD τ).loc b ↦{fullShare} X) :=
  owns_whole (c : Thread nD τ) b fullShare X
/-- A window's buffer at some contents. -/
theorem own_any (c : Dev nD) (b : Ref sig .tc) {T : Type} (X : T → b.ty.Contents (Elt F)) :
    (iprop(∃ d, owns (c : Thread nD τ) (Memref.whole b) fullShare (X d)) : sProp 𝕄)
      ⊢ iprop(∃ f, (c : Thread nD τ).loc b ↦{fullShare} f) := by
  iintro ⟨%d, H⟩
  iexists (X d)
  iapply (Entails.of_eq (own c b (X d))) $$ H
/-- A window's buffer at contents known. -/
theorem own_at (c : Dev nD) (b : Ref sig .tc) {T : Type} (X : T → b.ty.Contents (Elt F)) (Y : b.ty.Contents (Elt F)) (h : ∀ d, X d = Y) :
    (iprop(∃ d, owns (c : Thread nD τ) (Memref.whole b) fullShare (X d)) : sProp 𝕄)
      ⊢ ((c : Thread nD τ).loc b ↦{fullShare} Y) := by
  iintro ⟨%d, H⟩
  iapply (show (owns (c : Thread nD τ) (Memref.whole b) fullShare (X d) : sProp 𝕄) ⊢ ((c : Thread nD τ).loc b ↦{fullShare} Y)
    from by rw [h d]; exact Entails.of_eq (own c b Y)) $$ H

/-- The second call's body. -/
theorem body1 (c : Dev nD) : BodyObligation (dat1 (F := F) m c) defs₀ 𝒱₀ () Set.univ := fun t => by
  obtain rfl := fin_N1 t
  rw [bigSep_W1, bigSep_W1]
  show iprop(Pipeline.scopedRest spec1 c ∗ (dat1 m c).owesAt () t1_0.castSucc
      ∗ (∃ d, owns (c : Thread nD τ) e1M fullShare ((dat1 m c).before 0 t1_0 d))
      ∗ (∃ d, owns (c : Thread nD τ) rx1M fullShare ((dat1 m c).before 1 t1_0 d))
      ∗ (∃ d, owns (c : Thread nD τ) ry1M fullShare ((dat1 m c).before 2 t1_0 d))
      ∗ (∃ d, owns (c : Thread nD τ) s1M fullShare ((dat1 m c).before 3 t1_0 d))
      ∗ (∃ d, owns (c : Thread nD τ) oM fullShare ((dat1 m c).before 4 t1_0 d)))
    ⊢ WP c (cc1_body_b e1M (hstage1_0 0) rx1M (hstage1_1 0) ry1M (hstage1_2 0) s1M (hstage1_3 0) oM (hstage1_4 0)) fun _ =>
      iprop(Pipeline.scopedRest spec1 c ∗ (dat1 m c).owesAt () t1_0.castSucc
        ∗ owns (c : Thread nD τ) e1M fullShare (eFin m c)
        ∗ owns (c : Thread nD τ) rx1M fullShare (rxFin m c)
        ∗ owns (c : Thread nD τ) ry1M fullShare (ryFin m c)
        ∗ owns (c : Thread nD τ) s1M fullShare (sFin m c)
        ∗ owns (c : Thread nD τ) oM fullShare (oFin m c))
  iintro ⟨Hs, HO, H0, H1, H2, H3, H4⟩
  ihave G0 := (own_at c cc1_stg0_0 _ (eFin m c) (before1_0 m c t1_0)) $$ H0
  ihave G1 := (own_at c cc1_stg1_0 _ (rxFin m c) (before1_1 m c t1_0)) $$ H1
  ihave G2 := (own_at c cc1_stg2_0 _ (ryFin m c) (before1_2 m c t1_0)) $$ H2
  ihave G3 := (own_at c cc1_stg3_0 _ (sFin m c) (before1_3 m c t1_0)) $$ H3
  ihave G4 := (own_any c cc1_stg4_0 _) $$ H4
  iapply (b_run m c)
  isplitl [G0 G1 G2 G3]
  · unfold BIn
    isplitl [G0]; · iexact G0
    isplitl [G1]; · iexact G1
    isplitl [G2] <;> iassumption
  isplitl [G4]; · iexact G4
  unfold BIn
  rw [own, own, own, own, own]
  iintro ⟨⟨G0, G1, G2, G3⟩, G4⟩
  isplitl [Hs]; · iexact Hs
  isplitl [HO]; · iexact HO
  isplitl [G0]; · iexact G0
  isplitl [G1]; · iexact G1
  isplitl [G2]; · iexact G2
  isplitl [G3] <;> iassumption

/-- The reached facts apart from the positions. -/
theorem opened_split (c : Dev nD) :
    (bigSep Finset.univ fun p : Fin 4 × Fin 8 => iprop(atPos ER (cell c p.1 p.2) 0 ∅ 0 ∗ reached ER (cell c p.1 p.2) 0) : sProp 𝕄)
      = iprop((bigSep Finset.univ fun p : Fin 4 × Fin 8 => atPos ER (cell c p.1 p.2) 0 ∅ 0)
        ∗ bigSep Finset.univ fun p : Fin 4 × Fin 8 => reached ER (cell c p.1 p.2) 0) := bigSep_sep' _ _ _

/-- The double buffer apart from the scoped buffers the first call does not stage. -/
def Rst0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f))
theorem rest0_eq (c : Dev nD) : (Pipeline.scopedRest spec0 c : sProp 𝕄)
    = iprop((∃ f, wLoc c ↦{fullShare} f) ∗ Rst0 c) := scopedRest0_eq c

theorem owed0_first (c : Dev nD) : (dat0 (F := F) m c).owed t0_0.castSucc = O₀ c := by
  show (if t0_0.castSucc.val = 0 then O₀ c else 0) = O₀ c; exact if_pos rfl
theorem owed0_last (c : Dev nD) : (dat0 (F := F) m c).owed t0_0.succ = 0 := by
  show (if t0_0.succ.val = 0 then O₀ c else 0) = 0; exact if_neg (Nat.succ_ne_zero _)
theorem Φ0_first (c : Dev nD) : (dat0 (F := F) m c).Φ t0_0.castSucc
    = iprop(Xk m c ∗ (bigLoc c ↦{fullShare} wIn m c) ∗ ((∃ f, wLoc c ↦{fullShare} f) ∗ Rst0 c) ∗ ∃ r, prngReg c r) := by
  rw [← rest0_eq]; show Φ0 m c (t0_0.castSucc.val = 0) = _; unfold Φ0; exact if_pos rfl
theorem Φ0_last (c : Dev nD) : (dat0 (F := F) m c).Φ t0_0.succ
    = iprop((Zs c ∗ semVal (barCell c) 0) ∗ (bigLoc c ↦{fullShare} wIn m c) ∗ ((∃ f, wLoc c ↦{fullShare} f) ∗ Rst0 c) ∗ ∃ r, prngReg c r) := by
  rw [← rest0_eq]; show Φ0 m c (t0_0.succ.val = 0) = _; unfold Φ0; exact if_neg (Nat.succ_ne_zero _)

/-- The first call's body. -/
theorem body0 (c : Dev nD) : BodyObligation (dat0 (F := F) m c) defs₀ 𝒱₀ () Set.univ := fun t => by
  obtain rfl := fin_N0 t
  rw [bigSep_W0, bigSep_W0, Φ0_first, Φ0_last]
  show iprop((Xk m c ∗ (bigLoc c ↦{fullShare} wIn m c) ∗ ((∃ f, wLoc c ↦{fullShare} f) ∗ Rst0 c) ∗ ∃ r, prngReg c r)
      ∗ (dat0 m c).owesAt () t0_0.castSucc
      ∗ (∃ d, owns (c : Thread nD τ) (Memref.whole cc0_stg0_0) fullShare ((dat0 m c).before 0 t0_0 d))
      ∗ (∃ d, owns (c : Thread nD τ) eM fullShare ((dat0 m c).before 1 t0_0 d))
      ∗ (∃ d, owns (c : Thread nD τ) rxM fullShare ((dat0 m c).before 2 t0_0 d))
      ∗ (∃ d, owns (c : Thread nD τ) ryM fullShare ((dat0 m c).before 3 t0_0 d))
      ∗ (∃ d, owns (c : Thread nD τ) (Memref.whole cc0_stg4_0) fullShare ((dat0 m c).before 4 t0_0 d)))
    ⊢ WP c (cc0_body_a (Memref.whole cc0_stg0_0) (hstage0_0 0) bigM (Memref.isWhole_whole _) eM (hstage0_1 0) rxM (hstage0_2 0) ryM (hstage0_3 0)
        (Memref.whole cc0_stg4_0) (hstage0_4 0) wM (Memref.isWhole_whole _) cc0_scratch1 cc0_scratch2 cc0_scratch3 cc0_scratch4 cc0_scratch5) fun _ =>
      iprop(((Zs c ∗ semVal (barCell c) 0) ∗ (bigLoc c ↦{fullShare} wIn m c) ∗ ((∃ f, wLoc c ↦{fullShare} f) ∗ Rst0 c) ∗ ∃ r, prngReg c r)
        ∗ (dat0 m c).owesAt () t0_0.succ
        ∗ owns (c : Thread nD τ) (Memref.whole cc0_stg0_0) fullShare (xIn m c)
        ∗ owns (c : Thread nD τ) eM fullShare (eFin m c)
        ∗ owns (c : Thread nD τ) rxM fullShare (rxFin m c)
        ∗ owns (c : Thread nD τ) ryM fullShare (ryFin m c)
        ∗ owns (c : Thread nD τ) (Memref.whole cc0_stg4_0) fullShare (sFin m c))
  unfold Xk Ghost Zs
  rw [opened_split]
  iintro ⟨⟨⟨⟨%κ, ⟨HI, Ht1, Ht2, Hr1, Hr2, Hc, Hat, Hd, Hcx, Hcy⟩, Hao, Hro⟩, HL, Hv0, Hv1⟩, Hbig, ⟨Hw, Hrst⟩, Hp⟩, HO, H0, H1, H2, H3, H4⟩
  ihave HO := (owesAt_elim (dat0 m c) _ (O₀ c) (owed0_first m c)) $$ HO
  ihave G0 := (own_at c cc0_stg0_0 _ (xIn m c) (before0 m c t0_0)) $$ H0
  ihave G1 := (own_any c cc0_stg1_0 _) $$ H1
  ihave G2 := (own_any c cc0_stg2_0 _) $$ H2
  ihave G3 := (own_any c cc0_stg3_0 _) $$ H3
  ihave G4 := (own_any c cc0_stg4_0 _) $$ H4
  iapply (a_run m κ c)
  isplitr [Hrst Hp]
  · unfold APre BarPre
    isplitl [HI HL HO Ht1 Ht2 Hr1 Hr2 Hc Hat Hro G2 G3 G0]
    · isplitl [HI]; · iexact HI
      isplitl [HL]; · iexact HL
      isplitl [HO]; · iexact HO
      isplitl [Ht1]; · iexact Ht1
      isplitl [Ht2]; · iexact Ht2
      isplitl [Hr1]; · iexact Hr1
      isplitl [Hr2]; · iexact Hr2
      isplitl [Hc]; · iexact Hc
      isplitl [Hat]; · iexact Hat
      isplitl [Hro]; · iexact Hro
      isplitl [G2]; · iexact G2
      isplitl [G3] <;> iassumption
    isplitl [Hao]; · iexact Hao
    isplitl [Hd]; · iexact Hd
    isplitl [Hcx]; · iexact Hcx
    isplitl [Hcy]; · iexact Hcy
    isplitl [Hbig]; · iexact Hbig
    isplitl [G1]; · iexact G1
    isplitl [G4]; · iexact G4
    isplitl [Hw]; · iexact Hw
    isplitl [Hv0] <;> iassumption
  unfold APost
  rw [own, own, own, own, own]
  iintro ⟨HO, G0, Hbig, G1, G2, G3, G4, Hw, Hv0, Hv1, Hb, Hz⟩
  isplitl [Hv0 Hv1 Hb Hz Hbig Hw Hrst Hp]
  · isplitl [Hv0 Hv1 Hb Hz]
    · isplitr [Hb]
      · isplitl [Hv0 Hv1]
        · isplitl [Hv0] <;> iassumption
        iexact Hz
      iexact Hb
    isplitl [Hbig]; · iexact Hbig
    isplitl [Hw Hrst]
    · isplitl [Hw] <;> iassumption
    iexact Hp
  isplitl [HO]; · iapply (owesAt_intro (dat0 m c) t0_0.succ 0 (owed0_last m c) rfl) $$ HO
  isplitl [G0]; · iexact G0
  isplitl [G1]; · iexact G1
  isplitl [G2]; · iexact G2
  isplitl [G3] <;> iassumption

end Cert.Talk

end
-- ==== Proof.Regions.lean ====
/-
  The two calls as regions of @main: what each is entered from and what it leaves. The first talks across devices; the
  second only computes.
-/
module

public import proofs.«01_k».proof.Proof.Data
public import Idealize.ShloMosaic.Lib.Pipeline.RegionArraysS
public import Idealize.ShloMosaic.Lib.Rounds.Family
public import Idealize.ShloMosaic.Harness.Basic

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

def pdats : (p : Fin 2) → (c : Dev nD) → Dat τ (Elt F) Unit ℕ UU ℕ (Pipeline.pin (pcfgs (F := F)) adm p) c
  | 0 => dat0 m
  | 1 => dat1 m

local notation "ℝ𝕊" => Pipeline.RegionSeg (pcfgs (F := F)) adm (pdats m) () defs₀ 𝒱₀ L lv

/-! ## The first call -/

/-- The semaphores the first call addresses itself. -/
def osem : Fin 2 ⊕ (Fin 4 × Fin 8) → SemLoc sig := Sum.elim (fun s => .dma (wsm s)) (fun p => .dma (sm p.1 p.2))

theorem osem_facts : Pipeline.OwnSemFacts spec0 osem := by decide +kernel

theorem ownSems_eq (c : Dev nD) : (Pipeline.ownSems0 osem c : sProp 𝕄) = Zs c := by
  unfold Pipeline.ownSems0 Zs
  rw [bigSep_univ_sum]
  congr 1
  exact BI.bigSep_fin_two (fun k : Fin 2 => (semVal ((c : Thread nD τ), osem (.inl k)) 0 : sProp 𝕄))

/-- The cells of the four arrays opened from their semaphores at zero. -/
theorem hopen (c : Dev nD) : iprop(Tk m c ∗ Pipeline.ownSems0 osem c ∗ levAts L lv) ⊢ (|={Set.univ}=> Xk m c : sProp 𝕄) := by
  rw [ownSems_eq]
  unfold Tk Xk Zs
  iintro ⟨⟨%κ, Hg, Ho⟩, ⟨⟨Hv0, Hv1⟩, Hz⟩, HL⟩
  have hI : Ghost m κ c ⊢ iprop(Invs m κ ∗ Ghost m κ c) := by
    unfold Ghost
    iintro ⟨#HI, H⟩
    isplitr; · iexact HI
    isplitr; · iexact HI
    iexact H
  ihave H := hI $$ Hg
  icases H with ⟨#HI, Hg⟩
  imod (Rounds.cells_open (K := Fin 4 × Fin 8) ER (rd m) Finset.univ (fun p => cell c p.1 p.2) (fun p => κ (cell c p.1 p.2))
    (fun p _ => Set.mem_univ _)) $$ [Ho Hz] with Ha
  · isplitl [Ho]
    · iapply (bigSep_with_persistent (R := Invs m κ) (Φ := fun p : Fin 4 × Fin 8 => openTok ER (cell c p.1 p.2)) (fun p _ => by
        iintro ⟨#HI, H⟩
        isplitr
        · iapply (Invs_cell m κ c p.1 p.2) $$ HI
        iexact H))
      isplitr; · iexact HI
      iexact Ho
    iexact Hz
  imodintro
  isplitl [Hg Ha]
  · iexists κ
    isplitl [Hg] <;> iassumption
  isplitl [HL]; · iexact HL
  isplitl [Hv0] <;> iassumption

abbrev bigR : DevRef τ sig := Proc.devRef .tc main_arg1
abbrev Hs : Finset (DevRef τ sig) := {bigR}
abbrev Sr : Finset (DevRef τ sig) := Pipeline.ucRefs τ sig \ Pipeline.arrRefs (τ := τ) spec0

theorem Hs_sub : Hs ⊆ Sr := by
  intro b hb
  obtain rfl := Finset.mem_singleton.mp hb
  refine Finset.mem_sdiff.mpr ⟨Finset.mem_filter.mpr ⟨StableHlo.devRef_mem_tcRefs main_arg1, by decide⟩, ?_⟩
  decide
theorem arrs0_sub : Pipeline.arrRefs (τ := τ) spec0 ⊆ Pipeline.ucRefs τ sig := by decide
theorem arrs1_sub : Pipeline.arrRefs (τ := τ) spec1 ⊆ Pipeline.ucRefs τ sig := by decide

theorem held_big (c : Dev nD) (W : Valuation τ sig (Elt F)) :
    (StableHlo.held (c.tc : Thread nD τ) Hs W : sProp 𝕄) = (bigLoc c ↦{fullShare} W bigR) := by
  unfold StableHlo.held
  exact BI.bigSep_singleton

theorem hin0 (c : Dev nD) : iprop(Pipeline.scopedRest (Pipeline.pin (pcfgs (F := F)) adm 0).spec c ∗ (∃ r, prngReg c r)
      ∗ StableHlo.held (c.tc : Thread nD τ) Hs (V0 m c) ∗ Xk m c) ⊢ (pdats m 0 c).Φ 0 := by
  rw [held_big]
  show iprop(Pipeline.scopedRest spec0 c ∗ (∃ r, prngReg c r) ∗ (bigLoc c ↦{fullShare} wIn m c) ∗ Xk m c) ⊢ (dat0 m c).Φ t0_0.castSucc
  rw [Φ0_first, rest0_eq]
  iintro ⟨Hs, Hp, Hb, HX⟩
  isplitl [HX]; · iexact HX
  isplitl [Hb]; · iexact Hb
  isplitl [Hs] <;> iassumption

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V1 m c) ∗ Pipeline.ownSems0 osem c ∗ semVal (barCell c) 0) := by
  rw [held_big, ownSems_eq, V1_arg1]
  show (dat0 m c).Φ t0_0.succ ⊢ iprop(Pipeline.scopedRest spec0 c ∗ (∃ r, prngReg c r) ∗ (bigLoc c ↦{fullShare} wIn m c) ∗ Zs c ∗ semVal (barCell c) 0)
  rw [Φ0_last, rest0_eq]
  iintro ⟨⟨HZ, Hv⟩, Hb, Hs, Hp⟩
  isplitl [Hs]; · iexact Hs
  isplitl [Hp]; · iexact Hp
  isplitl [Hb]; · iexact Hb
  isplitl [HZ] <;> iassumption

theorem cut0 (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

theorem share0 (c : Dev nD) (w : Fin cfg0.W) : (dat0 (F := F) m c).share w = fullShare := by
  show (if (cfg0.win w).isOut then fullShare else fullShare) = fullShare
  exact ite_self _
theorem share1 (c : Dev nD) (w : Fin cfg1.W) : (dat1 (F := F) m c).share w = fullShare := by
  show (if (cfg1.win w).isOut then fullShare else fullShare) = fullShare
  exact ite_self _

theorem lv_stage0 : ∀ (w : Fin 5) (s : Fin (spec0 w).nbuf) (c : Dev nD), lv ((c : Thread nD τ), .dma ((spec0 w).sem s)) () = 0 := by
  decide
theorem lv_stage1 : ∀ (w : Fin 5) (s : Fin (spec1 w).nbuf) (c : Dev nD), lv ((c : Thread nD τ), .dma ((spec1 w).sem s)) () = 0 := by
  decide

set_option backward.isDefEq.respectTransparency.types false in
/-- The first call, entered with the buffers as launched and left with what it wrote. -/
def reg0 : ℝ𝕊 0 :=
  Pipeline.RegionSeg.ofTalk (pcfgs (F := F)) adm (pdats m) () defs₀ 𝒱₀ L lv 0 osem osem_facts
    Hs Sr Hs_sub launch0.toP rfl (fun c => (body0 m c).loose)
    (fun _ => 0) O₀ (fun c => (owed0_first m c).trans (zero_add _).symm) (fun c => owed0_last m c) (fun _ => rfl) (fun c w => share0 m c w)
    (V0 m) (V1 m) (fun c b hb => Pipeline.afterRegion_off (dat0 m c) (V0 m c) (Pipeline.ucRefs τ sig) b (Finset.mem_sdiff.mp hb).1)
    (Tk m) (fun c => semVal (barCell c) 0) (Xk m) (fun c => semVal (barCell c) 0) (hopen m) (hin0 m) (hout0 m)
    (fun c => by iintro H; imodintro; iexact H)
    (fun _ => 0)
    ⟨fun c w s => mem_L c _, fun c w s => le_of_eq (lv_stage0 w s c), fun c t g i h => cut0 m c t g i h⟩
    (fun _ => iprop(emp))
    (fun _ _ => rfl) (fun c w => (Pipeline.afterRegion_arr (dat0 m c) (V0 m c) winFacts0.arr_inj w).symm)

/-- What a device holds before the first call, -/
def T0 (c : Dev nD) : sProp 𝕄 :=
  iprop(StableHlo.held (c : Thread nD τ) (Pipeline.ucRefs τ sig) (V0 m c) ∗ (∃ r, prngReg c r) ∗ Tk m c ∗ ow c (O₀ c))
/-- between the calls, -/
def T1 (c : Dev nD) : sProp 𝕄 :=
  iprop(StableHlo.held (c : Thread nD τ) (Pipeline.ucRefs τ sig) (V1 m c) ∗ (∃ r, prngReg c r) ∗ semVal (barCell c) 0 ∗ ow c 0)
/-- and at the end. -/
def T2 (c : Dev nD) : sProp 𝕄 :=
  iprop(StableHlo.held (c : Thread nD τ) (Pipeline.ucRefs τ sig) (V2 m c) ∗ semVal (barCell c) 0)

theorem reg0_pre (c : Dev nD) : T0 m c ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) Sr (V0 m c) ∗ emp) ∗ Tk m c ∗ ∃ Wd, owes (c : Thread nD τ) (0 + O₀ c) Wd)
  unfold T0 ow
  rw [zero_add, StableHlo.held_sub_split (c.tc : Thread nD τ) arrs0_sub (V0 m c)]
  iintro ⟨⟨Ha, Hh⟩, Hp, HT, HO⟩
  isplitl [Ha]; · iexact Ha
  isplitl [Hp]; · iexact Hp
  isplitl [Hh]
  · isplitl [Hh]; · iexact Hh
    iempintro
  isplitl [HT] <;> iassumption

theorem reg0_post (c : Dev nD) : (reg0 m).post c ⊢ T1 m c := by
  show iprop(StableHlo.held (c.tc : Thread nD τ) (Pipeline.arrRefs (τ := τ) spec0) (V1 m c) ∗ (∃ r, prngReg c r)
    ∗ (StableHlo.held (c.tc : Thread nD τ) Sr (V1 m c) ∗ emp) ∗ semVal (barCell c) 0 ∗ ∃ Wd, owes (c : Thread nD τ) 0 Wd) ⊢ _
  unfold T1 ow
  rw [StableHlo.held_sub_split (c.tc : Thread nD τ) arrs0_sub (V1 m c)]
  iintro ⟨Ha, Hp, ⟨Hh, -⟩, Hb, HO⟩
  isplitl [Ha Hh]
  · isplitl [Ha] <;> iassumption
  isplitl [Hp]; · iexact Hp
  isplitl [Hb] <;> iassumption

/-! ## The second call -/

set_option backward.isDefEq.respectTransparency.types false in
/-- The second call. -/
def reg1 : ℝ𝕊 1 :=
  Pipeline.RegionSeg.ofHeldIn (pcfgs (F := F)) adm (pdats m) () defs₀ 𝒱₀ L lv 1 (fun _ => 0) (Pipeline.ucRefs τ sig)
    (fun _ => iprop(emp)) (fun _ => iprop(emp)) launch1.toP rfl (fun c => (body1 m c).loose)
    (fun _ _ => rfl) (fun _ => rfl) (fun c w => share1 m c w)
    (fun c => by
      show iprop(Pipeline.scopedRest spec1 c ∗ emp) ⊢ Pipeline.scopedRest spec1 c
      iintro ⟨H, -⟩; iexact H)
    (fun c => by
      show Pipeline.scopedRest spec1 c ⊢ iprop(Pipeline.scopedRest spec1 c ∗ emp)
      iintro H; isplitl [H]; · iexact H
      iempintro)
    (fun _ => 0)
    ⟨fun c w s => mem_L c _, fun c w s => le_of_eq (lv_stage1 w s c), fun c g i h => absurd h (Nat.lt_irrefl 0)⟩
    (fun c => iprop((∃ r, prngReg c r) ∗ semVal (barCell c) 0))
    (V1 m) (fun _ _ => rfl)

theorem reg1_pre (c : Dev nD) : T1 m c ⊢ (reg1 m).pre c := by
  refine BI.Entails.trans ?_ (Pipeline.RegionSeg.ofHeldIn_pre arrs1_sub c)
  unfold T1 ow
  show iprop(StableHlo.held (c.tc : Thread nD τ) (Pipeline.ucRefs τ sig) (V1 m c) ∗ (∃ r, prngReg c r) ∗ semVal (barCell c) 0
        ∗ ∃ Wd, owes (c : Thread nD τ) (0 : CellTallies nD τ sig Unit) Wd)
    ⊢ (iprop(StableHlo.held (c.tc : Thread nD τ) (Pipeline.ucRefs τ sig) (V1 m c)
      ∗ ((∃ Wd, owes (c : Thread nD τ) (0 : CellTallies nD τ sig Unit) Wd) ∗ emp ∗ (∃ r, prngReg c r) ∗ semVal (barCell c) 0)) : sProp 𝕄)
  iintro ⟨Hh, Hp, Hb, HO⟩
  isplitl [Hh]; · iexact Hh
  isplitl [HO]; · iexact HO
  isplitr; · iempintro
  isplitl [Hp] <;> iassumption

theorem reg1_post (c : Dev nD) : (reg1 m).post c
    ⊢ iprop(T2 m c ∗ ∃ W, owes (c : Thread nD τ) (0 : CellTallies nD τ sig Unit) W) := by
  refine BI.Entails.trans (Pipeline.RegionSeg.ofHeldIn_post arrs1_sub c) ?_
  show iprop(StableHlo.held (c.tc : Thread nD τ) (Pipeline.ucRefs τ sig) (V2 m c)
      ∗ ((∃ Wd, owes (c : Thread nD τ) 0 Wd) ∗ emp ∗ (∃ r, prngReg c r) ∗ semVal (barCell c) 0)) ⊢ _
  unfold T2
  iintro ⟨Hh, HO, -, -, Hb⟩
  isplitr [HO]
  · isplitl [Hh] <;> iassumption
  iexact HO

end Cert.Talk

end
-- ==== Proof.Launch.lean ====
/-
  The run of @main from the launch: the protocol's cells and tokens are allocated, each device is dealt its part, and the two
  calls run one after the other. The result is stated for any float values.
-/
module

public import proofs.«01_k».proof.Proof.Regions
public import Idealize.ShloMosaic.Lib.Quiescent

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

abbrev PP : Type := Fin 4 × Fin 8

theorem sm_inj : Function.Injective (fun p : PP => sm p.1 p.2) := by decide +kernel

def barEmb : Dev nD ↪ GSem nD τ sig := ⟨fun c => barCell c, fun _ _ h => congrArg (fun g : GSem nD τ sig => g.1.1) h⟩
def cellEmb : Dev nD × PP ↪ GSem nD τ sig :=
  ⟨fun x => cell x.1 x.2.1 x.2.2, fun _ _ h =>
    Prod.ext (congrArg (fun g : GSem nD τ sig => g.1.1) h) (sm_inj (SemLoc.dma.inj (congrArg Prod.snd h)))⟩

/-- The barrier cells, and the cells of the four arrays. -/
abbrev barCells : Finset (GSem nD τ sig) := Finset.univ.map barEmb
abbrev dmaCells : Finset (GSem nD τ sig) := Finset.univ.map cellEmb

/-- A device's duties: two on its barrier, one on every cell of the arrays. -/
def tsem : Bool ⊕ PP → SemLoc sig × Bool := Sum.elim (fun d => (.reg barS, d)) (fun p => (.dma (sm p.1 p.2), true))
theorem tsem_inj : Function.Injective tsem := by decide +kernel
def tokEmb : Dev nD × (Bool ⊕ PP) ↪ GSem nD τ sig × ℕ × Bool :=
  ⟨fun x => (((x.1 : Thread nD τ), (tsem x.2).1), 0, (tsem x.2).2), fun _ _ h =>
    Prod.ext (congrArg (fun t : GSem nD τ sig × ℕ × Bool => t.1.1.1) h)
      (tsem_inj (Prod.ext (congrArg (fun t : GSem nD τ sig × ℕ × Bool => t.1.2) h) (congrArg (fun t : GSem nD τ sig × ℕ × Bool => t.2.2) h)))⟩
abbrev talkToks : Finset (GSem nD τ sig × ℕ × Bool) := Finset.univ.map tokEmb

theorem disjoint_cells : Disjoint (barCells : Finset (GSem nD τ sig)) dmaCells := by
  rw [Finset.disjoint_left]
  rintro g h₁ h₂
  obtain ⟨c, -, rfl⟩ := Finset.mem_map.mp h₁
  obtain ⟨x, -, h⟩ := Finset.mem_map.mp h₂
  cases congrArg Prod.snd h

/-- The launch element. -/
def u₀ : UU :=
  (initOf (Pipeline.cells (Pipeline.pin (pcfgs (F := F)) adm) cellOf_inj) (Pipeline.launchToks (Pipeline.pin (pcfgs (F := F)) adm) cellOf_inj),
    (launchOf barCells dmaCells talkToks, 1))

/-- All the protocol's share of the launch element, kept on one device until it is dealt. -/
def G (c : Dev nD) : sProp 𝕄 := if c = 0 then BI.own (ER (launchOf barCells dmaCells talkToks)) else iprop(emp)
theorem bigSep_G : bigSep Finset.univ (G (F := F)) = BI.own (ER (launchOf barCells dmaCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What each device is dealt -/

/-- What every device may consult. -/
def records (κ : GSem nD τ sig → ℕ) : sProp 𝕄 :=
  iprop(Invs m κ ∗ bigSep Finset.univ fun c : Dev nD => reached ER (barCell c) 0)
instance records_persistent (κ : GSem nD τ sig → ℕ) : BI.Persistent (records m κ) := by unfold records; infer_instance

theorem reached_at (c : Dev nD) : (bigSep Finset.univ fun c : Dev nD => (reached ER (barCell c) 0 : sProp 𝕄)) ⊢ reached ER (barCell c) 0 :=
  bigSep_elim (Φ := fun c : Dev nD => (reached ER (barCell c) 0 : sProp 𝕄)) (Finset.mem_univ c)

/-- The rights to pay, as they are dealt. -/
def pays (c : Dev nD) : sProp 𝕄 :=
  iprop((dutyTok ER (barCell (partner c)) 0 true ∗ dutyTok ER (barCell (neighbor c)) 0 false)
    ∗ bigSep Finset.univ fun p : PP => dutyTok ER (cell (payer p.1 c) p.1 p.2) 0 true)
/-- The credits. -/
def credits (c : Dev nD) : sProp 𝕄 :=
  iprop(cred (tallyAt (barCell c) () 2) ∗ (bigSep Finset.univ fun k : Fin 8 => cred (tallyAt (cell c 1 k) () N))
    ∗ (bigSep Finset.univ fun k : Fin 8 => cred (tallyAt (cell c 3 k) () N)))
/-- The position on the barrier, and the rights to open the cells of the arrays. -/
def posn (c : Dev nD) : sProp 𝕄 :=
  iprop(atPos ER (barCell c) 0 ∅ 0 ∗ bigSep Finset.univ fun p : PP => openTok ER (cell c p.1 p.2))
/-- What is not the protocol's. -/
def plain (c : Dev nD) : sProp 𝕄 :=
  iprop(StableHlo.held (c : Thread nD τ) (Pipeline.ucRefs τ sig) (V0 m c) ∗ (∃ r, prngReg c r) ∗ ow c (O₀ c))

theorem T0_intro (κ : GSem nD τ sig → ℕ) (c : Dev nD) :
    iprop(records m κ ∗ (posn c ∗ pays c) ∗ (plain m c ∗ credits c)) ⊢ T0 m c := by
  unfold records posn pays credits plain T0 Tk Ghost
  iintro ⟨⟨#HI, #HR⟩, ⟨⟨Ha, Ho⟩, ⟨Ht1, Ht2⟩, Hd⟩, ⟨Hh, Hp, HO⟩, ⟨Hc, Hcx, Hcy⟩⟩
  isplitl [Hh]; · iexact Hh
  isplitl [Hp]; · iexact Hp
  isplitr [HO]
  · iexists κ
    isplitr [Ho]
    · isplitr; · iexact HI
      isplitl [Ht1]; · iexact Ht1
      isplitl [Ht2]; · iexact Ht2
      isplitr; · iapply (reached_at (F := F) (partner c)); iexact HR
      isplitr; · iapply (reached_at (F := F) (neighbor c)); iexact HR
      isplitl [Hc]; · iexact Hc
      isplitl [Ha]; · iexact Ha
      isplitl [Hd]; · iexact Hd
      isplitl [Hcx] <;> iassumption
    iexact Ho
  iexact HO

/-- The tokens, device by device. -/
theorem toks_eq : bigSep talkToks (fun x => (dutyTok ER x.1 x.2.1 x.2.2 : sProp 𝕄))
    = bigSep Finset.univ fun c : Dev nD => iprop((dutyTok ER (barCell c) 0 true ∗ dutyTok ER (barCell c) 0 false)
        ∗ bigSep Finset.univ fun p : PP => dutyTok ER (cell c p.1 p.2) 0 true) := by
  rw [bigSep_map, bigSep_univ_prod]
  refine bigSep_congr fun c _ => ?_
  rw [bigSep_univ_sum]
  congr 1
  rw [show (Finset.univ : Finset Bool) = {true, false} from by decide, bigSep_insert (by decide), bigSep_singleton]
  rfl

def partnerE : Dev nD ≃ Dev nD := ⟨partner, partner, partner_partner, partner_partner⟩
def neighborE : Dev nD ≃ Dev nD := ⟨neighbor, neighbor, neighbor_neighbor, neighbor_neighbor⟩
def payerE : Dev nD × PP ≃ Dev nD × PP :=
  ⟨fun x => (payer x.2.1 x.1, x.2), fun x => (payer x.2.1 x.1, x.2),
    fun x => Prod.ext (payer_payer _ _) rfl, fun x => Prod.ext (payer_payer _ _) rfl⟩

/-- The tokens, each handed to the device that pays. -/
theorem toks_around :
    (bigSep Finset.univ fun c : Dev nD => iprop((dutyTok ER (barCell c) 0 true ∗ dutyTok ER (barCell c) 0 false)
        ∗ bigSep Finset.univ fun p : PP => dutyTok ER (cell c p.1 p.2) 0 true))
      ⊢ (bigSep Finset.univ fun c : Dev nD => pays c : sProp 𝕄) := by
  have hp : (bigSep Finset.univ fun c : Dev nD => (bigSep Finset.univ fun p : PP => dutyTok ER (cell c p.1 p.2) 0 true : sProp 𝕄))
      = bigSep Finset.univ fun c : Dev nD => (bigSep Finset.univ fun p : PP => dutyTok ER (cell (payer p.1 c) p.1 p.2) 0 true) := by
    rw [← bigSep_univ_prod (fun x : Dev nD × PP => (dutyTok ER (cell x.1 x.2.1 x.2.2) 0 true : sProp 𝕄)),
      bigSep_univ_equiv payerE (fun x : Dev nD × PP => (dutyTok ER (cell x.1 x.2.1 x.2.2) 0 true : sProp 𝕄)), bigSep_univ_prod]
    rfl
  unfold pays
  rw [bigSep_sep', bigSep_sep', bigSep_sep', bigSep_sep', hp,
    bigSep_univ_equiv partnerE (fun c : Dev nD => (dutyTok ER (barCell c) 0 true : sProp 𝕄)),
    bigSep_univ_equiv neighborE (fun c : Dev nD => (dutyTok ER (barCell c) 0 false : sProp 𝕄))]
  exact BI.Entails.refl _

/-! ## The launch credit -/

theorem bar_eq {c d : Dev nD} (h : barCell c = barCell d) : c = d := congrArg (fun g : GSem nD τ sig => g.1.1) h
theorem cell_eq {c d : Dev nD} {q r : Fin 4} {k j : Fin 8} (h : cell c q k = cell d r j) : c = d ∧ q = r ∧ k = j := by
  have h2 := cellEmb.injective (a₁ := (c, q, k)) (a₂ := (d, r, j)) h
  exact ⟨congrArg Prod.fst h2, congrArg (fun x : Dev nD × PP => x.2.1) h2, congrArg (fun x : Dev nD × PP => x.2.2) h2⟩
theorem bar_ne_cell (c d : Dev nD) (q : Fin 4) (k : Fin 8) : barCell c ≠ cell d q k := fun h => by cases congrArg Prod.snd h

theorem sum_tally (s : Finset (Fin 8)) (f : Fin 8 → GSem nD τ sig) (g : GSem nD τ sig) :
    (∑ j ∈ s, (tallyAt (f j) () N : CellTallies nD τ sig Unit)) g () = ∑ j ∈ s, if g = f j ∧ () = () then N else 0 := by
  rw [Finset.sum_apply, Finsupp.finsetSum_apply]
  exact Finset.sum_congr rfl fun j _ => tallyAt_apply _ _ _ _ _

theorem owX_bar (d c : Dev nD) : owX d 0 (barCell c) () = 0 := by
  unfold owX
  rw [sum_tally]
  exact Finset.sum_eq_zero fun j _ => if_neg fun h => bar_ne_cell _ _ _ _ h.1
theorem owY_bar (d c : Dev nD) : owY d 0 (barCell c) () = 0 := by
  unfold owY
  rw [sum_tally]
  exact Finset.sum_eq_zero fun j _ => if_neg fun h => bar_ne_cell _ _ _ _ h.1
theorem owX_1 (d c : Dev nD) (k : Fin 8) : owX d 0 (cell c 1 k) () = if d = partner c then N else 0 := by
  unfold owX
  rw [sum_tally, Finset.filter_true_of_mem (fun _ _ => Nat.zero_le _)]
  by_cases h : d = partner c
  · subst h
    rw [if_pos rfl, Finset.sum_eq_single k (fun j _ hj => if_neg fun h => hj (cell_eq h.1).2.2.symm) (fun h => absurd (Finset.mem_univ _) h),
      partner_partner, if_pos ⟨rfl, rfl⟩]
  · rw [if_neg h]
    exact Finset.sum_eq_zero fun j _ => if_neg fun h' => h (by rw [(cell_eq h'.1).1, partner_partner])
theorem owX_3 (d c : Dev nD) (k : Fin 8) : owX d 0 (cell c 3 k) () = 0 := by
  unfold owX
  rw [sum_tally]
  exact Finset.sum_eq_zero fun j _ => if_neg fun h => absurd (cell_eq h.1).2.1 (by decide)
theorem owY_3 (d c : Dev nD) (k : Fin 8) : owY d 0 (cell c 3 k) () = if d = neighbor c then N else 0 := by
  unfold owY
  rw [sum_tally, Finset.filter_true_of_mem (fun _ _ => Nat.zero_le _)]
  by_cases h : d = neighbor c
  · subst h
    rw [if_pos rfl, Finset.sum_eq_single k (fun j _ hj => if_neg fun h => hj (cell_eq h.1).2.2.symm) (fun h => absurd (Finset.mem_univ _) h),
      neighbor_neighbor, if_pos ⟨rfl, rfl⟩]
  · rw [if_neg h]
    exact Finset.sum_eq_zero fun j _ => if_neg fun h' => h (by rw [(cell_eq h'.1).1, neighbor_neighbor])
theorem owY_1 (d c : Dev nD) (k : Fin 8) : owY d 0 (cell c 1 k) () = 0 := by
  unfold owY
  rw [sum_tally]
  exact Finset.sum_eq_zero fun j _ => if_neg fun h => absurd (cell_eq h.1).2.1 (by decide)

theorem owed_at (d : Dev nD) (g : GSem nD τ sig) : O₀ d g () = owY d 0 g () + owX d 0 g ()
    + (if g = barCell (neighbor d) ∧ () = () then 1 else 0) + (if g = barCell (partner d) ∧ () = () then 1 else 0) := by
  unfold O₀
  rw [Pi.add_apply, Finsupp.add_apply, Pi.add_apply, Finsupp.add_apply, Pi.add_apply, Finsupp.add_apply, tallyAt_apply, tallyAt_apply]

theorem owed_bar (d c : Dev nD) : O₀ d (barCell c) () = (if d = neighbor c then 1 else 0) + (if d = partner c then 1 else 0) := by
  rw [owed_at, owX_bar, owY_bar, Nat.add_zero, Nat.zero_add]
  congr 1
  · exact if_congr ⟨fun h => by rw [bar_eq h.1, neighbor_neighbor], fun h => by rw [h, neighbor_neighbor]; exact ⟨rfl, rfl⟩⟩ rfl rfl
  · exact if_congr ⟨fun h => by rw [bar_eq h.1, partner_partner], fun h => by rw [h, partner_partner]; exact ⟨rfl, rfl⟩⟩ rfl rfl
theorem owed_1 (d c : Dev nD) (k : Fin 8) : O₀ d (cell c 1 k) () = if d = partner c then N else 0 := by
  rw [owed_at, owX_1, owY_1, if_neg (c := _ ∧ _) (fun h => bar_ne_cell _ _ _ _ h.1.symm), if_neg (c := _ ∧ _) (fun h => bar_ne_cell _ _ _ _ h.1.symm),
    Nat.zero_add, Nat.add_zero]
theorem owed_3 (d c : Dev nD) (k : Fin 8) : O₀ d (cell c 3 k) () = if d = neighbor c then N else 0 := by
  rw [owed_at, owX_3, owY_3, if_neg (c := _ ∧ _) (fun h => bar_ne_cell _ _ _ _ h.1.symm), if_neg (c := _ ∧ _) (fun h => bar_ne_cell _ _ _ _ h.1.symm),
    Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (neighbor c) fun _ => 1, Finset.sum_ite_eq' Finset.univ (partner c) fun _ => 1,
    if_pos (Finset.mem_univ _), if_pos (Finset.mem_univ _)]
theorem launch_1 (c : Dev nD) (k : Fin 8) :
    tallyOn (cell c 1 k) (launchCredit (Pipeline.owing O₀) 0 (cell c 1 k)) = (tallyAt (cell c 1 k) () N : CellTallies nD τ sig Unit) := by
  unfold tallyAt; refine congrArg _ (Finsupp.ext fun u => ?_); cases u
  rw [Pipeline.launchCredit_owing, Finsupp.single_eq_same, Finset.sum_congr rfl fun d _ => owed_1 d c k,
    Finset.sum_ite_eq' Finset.univ (partner c) fun _ => N, if_pos (Finset.mem_univ _)]
theorem launch_3 (c : Dev nD) (k : Fin 8) :
    tallyOn (cell c 3 k) (launchCredit (Pipeline.owing O₀) 0 (cell c 3 k)) = (tallyAt (cell c 3 k) () N : CellTallies nD τ sig Unit) := by
  unfold tallyAt; refine congrArg _ (Finsupp.ext fun u => ?_); cases u
  rw [Pipeline.launchCredit_owing, Finsupp.single_eq_same, Finset.sum_congr rfl fun d _ => owed_3 d c k,
    Finset.sum_ite_eq' Finset.univ (neighbor c) fun _ => N, if_pos (Finset.mem_univ _)]

/-- The cells a device has credit for. -/
def credSem : Unit ⊕ (Fin 8 ⊕ Fin 8) → SemLoc sig := Sum.elim (fun _ => .reg barS) (Sum.elim (fun k => .dma (sm 1 k)) (fun k => .dma (sm 3 k)))
theorem credSem_inj : Function.Injective credSem := by decide +kernel

theorem creds (c : Dev nD) : (Pipeline.launchCred O₀ c : sProp 𝕄) ⊢ credits c := by
  unfold Pipeline.launchCred credits
  refine BI.Entails.trans (bigSep_subset (Finset.subset_univ (Finset.univ.map ⟨credSem, credSem_inj⟩))) ?_
  rw [bigSep_map, bigSep_univ_sum, bigSep_univ_sum, show (Finset.univ : Finset Unit) = {()} from rfl, bigSep_singleton]
  refine BI.sep_mono ?_ (BI.sep_mono ?_ ?_)
  · show cred (tallyOn (barCell c) (launchCredit (Pipeline.owing O₀) 0 (barCell c))) ⊢ _
    rw [launch_bar c]
  · exact bigSep_mono fun k _ => by rw [← launch_1 c k]; exact BI.Entails.refl _
  · exact bigSep_mono fun k _ => by rw [← launch_3 c k]; exact BI.Entails.refl _

/-! ## The launch -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem invs_intro (κ : GSem nD τ sig → ℕ) :
    (bigSep (barCells ∪ dmaCells) fun g => (cellInv ER (rd m) (κ g) g : sProp 𝕄)) ⊢ Invs m κ := by
  rw [BI.bigSep_union disjoint_cells]
  unfold Invs
  exact BI.sep_mono (Entails.of_eq (bigSep_map (s := Finset.univ) barEmb (Φ := fun g => (cellInv ER (rd m) (κ g) g : sProp 𝕄))))
    (Entails.of_eq (bigSep_map (s := Finset.univ) cellEmb (Φ := fun g => (cellInv ER (rd m) (κ g) g : sProp 𝕄))))

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T0 m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((plain m c ∗ credits c) ∗ (semVal (barCell c) 0 ∗ G c)) : sProp 𝕄) := by
    rw [show unscopedBufs c (fun b => m ((c : Thread nD τ).loc b)) = StableHlo.held (c : Thread nD τ) (Pipeline.ucRefs τ sig) (V0 m c)
      from Pipeline.unscopedBufs_held c (V0 m c), unscopedSems0_eq]
    unfold plain ow
    iintro ⟨Hh, Hus, HO, Hcr, Hp, HG⟩
    ihave Hc := (creds (F := F) c) $$ Hcr
    isplitl [Hh Hc HO Hp]
    · isplitr [Hc]
      · isplitl [Hh]; · iexact Hh
        isplitl [Hp]; · iexists (ρ c); iexact Hp
        iexists ∅; iexact HO
      iexact Hc
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopn : bigSep dmaCells (fun g => (openTok ER g : sProp 𝕄))
      ⊢ bigSep Finset.univ (fun c : Dev nD => (bigSep Finset.univ fun p : PP => openTok ER (cell c p.1 p.2) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop((plain m c ∗ credits c) ∗ (semVal (barCell c) 0 ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (bigSep_G (F := F))) $$ HG
  imod (Rounds.fund_launch ER (rd m) disjoint_cells (fun g _ h => h) talkToks) $$ [Hv Hu] with ⟨%κ, -, Hinv, Hr, Hat, Hopen, Htok⟩
  · isplitl [Hv]
    · iapply hv $$ Hv
    · iexact Hu
  ihave Hinv := (invs_intro m κ) $$ Hinv
  ihave Hr := hr $$ Hr
  imodintro
  iapply (bigSep_with_persistent (R := records m κ) (Φ := fun c => iprop((posn c ∗ pays c) ∗ (plain m c ∗ credits c))) fun c _ => T0_intro m κ c)
  isplitl [Hinv Hr]
  · unfold records
    isplitl [Hinv] <;> iassumption
  iapply bigSep_pair
  isplitr [HB]
  · iapply bigSep_pair
    isplitl [Hat Hopen]
    · unfold posn
      iapply bigSep_pair; isplitl [Hat]; · iapply hat $$ Hat
      iapply hopn $$ Hopen
    iapply (toks_around (F := F))
    iapply (Entails.of_eq (toks_eq (F := F))) $$ Htok
  · iexact HB

theorem unscoped_eq : ∀ sm : SemLoc sig, sm.isScoped .tc = false → sm = .reg barS := by decide

theorem mem_uc (b : Ref sig .tc) (h : ¬ b.isScoped) : Proc.devRef .tc b ∈ Pipeline.ucRefs τ sig :=
  Finset.mem_filter.mpr ⟨StableHlo.devRef_mem_tcRefs b, h⟩

set_option backward.isDefEq.respectTransparency.types false in
/-- THE RUN. From any memory with all semaphores at zero, every weakly fair execution on the four devices terminates; every
    final state has the arguments as launched, the result at `oFin`, and every semaphore at zero. -/
theorem run_main : θ_run defs (onTc (τ := τ) (main (F := F))) ⟨m, fun _ => 0, ρ⟩
    (fun r => (∀ c : Dev nD, r.2.mem ((c.tc : Thread nD τ).loc main_v2) = oFin m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_sems (pcfgs (F := F)) adm (pdats m) () cellOf_inj EP defs₀ 𝒱₀ L lv m ρ main [.region (reg0 m), .region (reg1 m)]
    (fun c Q => by rw [main_segs adm (pdats m) () 𝒱₀ L lv (reg0 m) (reg1 m) c])
    (by simp only [Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]
      iexact HX)
    (T₀ := T0 m) (Tₙ := T2 m)
    (hch := ⟨fun c => reg0_pre m c, fun c => (reg0_post m c).trans (reg1_pre m c), fun c => reg1_post m c⟩)
    (hinit := init m ρ)
    (QY := fun c s => (s.mem ((c.tc : Thread nD τ).loc main_v2) = oFin m c
        ∧ s.mem ((c.tc : Thread nD τ).loc main_arg0) = m ((c.tc : Thread nD τ).loc main_arg0)
        ∧ s.mem ((c.tc : Thread nD τ).loc main_arg1) = m ((c.tc : Thread nD τ).loc main_arg1)) ∧ s.sem (barCell c) = 0)
    (hfin := fun c s' => by
      unfold T2 StableHlo.held
      iintro ⟨⟨Hh, Hb⟩, HSI⟩
      icombine HSI Hb gives %hb
      ihave Hr := (pointsTo_read_all (Pipeline.ucRefs τ sig) (fun b => ((c : Thread nD τ).1, b)) (V2 m c) s') $$ [Hh HSI]
      · isplitl [Hh] <;> iassumption
      icases Hr with ⟨%h, HSI⟩
      imodintro
      isplitr
      · ipureintro
        exact ⟨⟨(h _ (mem_uc main_v2 (by decide))).trans (V2_out m c), (h _ (mem_uc main_arg0 (by decide))).trans (V2_arg0 m c),
          (h _ (mem_uc main_arg1 (by decide))).trans (V2_arg1 m c)⟩, by simpa using hb⟩
      iexact HSI)
    (hQ := fun s h hs => ⟨fun c => (h c).1, sem_eq_zero hs fun c sm hsm => by
        obtain rfl := unscoped_eq sm hsm
        exact (h c).2⟩)

end Cert.Talk

end
-- ==== Proof.Value.lean ====
/-
  The values over the extended reals: what a device leaves in its output is, at row r and column n, the exponential of the
  product's entry there times the reciprocal of the sum of the exponentials of row r over all 16384 columns.
-/
module

public import proofs.«01_k».proof.Proof.RunB
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.ValueKit

@[expose] public section

noncomputable section

namespace Cert.Talk

open Cert.KernelIdeal Cert.KernelIdeal.Gen
open Idealize.ShloMosaic hiding ix1 ix2 ix3
open Idealize.ShloMosaic.TcCoe
open Idealize.ShloMosaic.ValueIdx
open scoped BigOperators

/-! ## The operations at an index -/

/-- Row t of a matrix summed along its columns: the k-th entry summed is (t, k). -/
theorem lift_row {a b : ℕ} (h : (⟨2, ![a, b]⟩ : Shape).Reduces [1] (⟨1, ![a]⟩ : Shape)) (t : Fin a)
    (k : Fin ((⟨2, ![a, b]⟩ : Shape).size 1)) : h.lift (ix1 t) k = ix2 t (⟨k.val, k.isLt⟩ : Fin b) := by
  funext x; apply Fin.ext
  fin_cases x <;> rfl

/-- The row sums of a matrix. -/
theorem rowSum_apply (v : FVec Ideal S512x512 .f32) (r : Fin 512) (u : Fin 1) (acc) (h) (hφ) (hacc) (hs) :
    shapeCast S512x1 (multiReduction .add [1] S512 v acc h hφ hacc) hs (ix2 r u) = ∑ q : Fin 512, v (ix2 r q) := by
  rw [shapeCast_a_a1_apply]
  refine (Ideal.multiReduction_add_single v acc h hφ hacc (ix1 r)).trans ?_
  exact Finset.sum_congr rfl fun k _ => congrArg v (lift_row h r k)

/-- A column laid along every column. -/
theorem cols_apply {b : ℕ} (v : S512x1.Idx → EReal) (h : S512x1.Broadcasts ⟨2, ![512, b]⟩) (r : Fin 512) (q : Fin b) :
    broadcastTo ⟨2, ![512, b]⟩ v h (ix2 r q) = v (ix2 r 0) := by
  refine broadcastTo_apply v h (ix2 r q) (ix2 r 0) fun a => ?_
  match a with
  | ⟨0, _⟩ => rfl
  | ⟨1, _⟩ => rfl

/-- A chunk of exponentials: each is the exponential of a row of x times a column of the chunk of W. -/
theorem pay7_apply (x : FVec Ideal S512x1024 .bf16) (w : Vec Ideal S1x1024x512 .f32) (r q : Fin 512) :
    k0_pay7 x w (ix2 r q) = Ideal.exp (∑ k : Fin 1024, x (ix2 r k) * w (ix3 0 k q)) := by
  show Ideal.exp (FloatOps.matmul (DotDims.plain 512 1024 512) none x
    (truncf .bf16 (shapeCast S1024x512 w shapeCasts_S1x1024x512_S1024x512 : FVec Ideal S1024x512 .f32) bitsLt_bf16_f32 : FVec Ideal S1024x512 .bf16)
    (constant S512x512 .f32 0x00000000#32) (ix2 r q)) = _
  rw [Ideal.matmul_plain_apply]
  congr 1
  rw [constant_apply, Ideal.ofBits_zero_f32, zero_add]
  refine Finset.sum_congr rfl fun k _ => ?_
  rw [truncf_apply]
  exact congrArg _ (shapeCast_1ab_ab_apply w _ k q)

/-- The same chunk as it is stored, under a leading axis of extent one. -/
theorem pay8_apply (x : FVec Ideal S512x1024 .bf16) (w : Vec Ideal S1x1024x512 .f32) (u : Fin 1) (r q : Fin 512) :
    k0_pay8 x w (ix3 u r q) = Ideal.exp (∑ k : Fin 1024, x (ix2 r k) * w (ix3 0 k q)) :=
  (shapeCast_ab_1ab_apply _ _ u r q).trans (pay7_apply x w r q)

/-- A step of the first loop adds the row sums of its chunk. -/
theorem pay2_apply (a : FVec Ideal S512x1 .f32) (v : FVec Ideal S512x512 .f32) (r : Fin 512) :
    k0_pay2 a v (ix2 r 0) = a (ix2 r 0) + ∑ q : Fin 512, v (ix2 r q) :=
  congrArg (a (ix2 r 0) + ·) (rowSum_apply v r 0 _ _ _ _ _)

/-- So does a step of the second, of the chunk that it computes. -/
theorem pay11_apply (x : FVec Ideal S512x1024 .bf16) (a : FVec Ideal S512x1 .f32) (w : Vec Ideal S1x1024x512 .f32) (r : Fin 512) :
    k0_pay11 x a w (ix2 r 0) = a (ix2 r 0) + ∑ q : Fin 512, Ideal.exp (∑ k : Fin 1024, x (ix2 r k) * w (ix3 0 k q)) :=
  (congrArg (a (ix2 r 0) + ·) (rowSum_apply (k0_pay7 x w) r 0 _ _ _ _ _)).trans
    (congrArg (a (ix2 r 0) + ·) (Finset.sum_congr rfl fun q _ => pay7_apply x w r q))

/-- It also adds the row sums of the partner's chunk that has landed, -/
theorem pay4_apply (a : FVec Ideal S512x1 .f32) (v : Vec Ideal S1x512x512 .bf16) (r : Fin 512) :
    k0_pay4 a v (ix2 r 0) = a (ix2 r 0) + ∑ q : Fin 512, v (ix3 0 r q) :=
  congrArg (a (ix2 r 0) + ·) ((rowSum_apply _ r 0 _ _ _ _ _).trans
    (Finset.sum_congr rfl fun q _ => shapeCast_1ab_ab_apply v shapeCasts_S1x512x512_S512x512 r q))

/-- as the third loop does of a chunk that the neighbor has passed on. -/
theorem pay5_apply (a : FVec Ideal S512x1 .f32) (v : Vec Ideal S1x512x512 .bf16) (r : Fin 512) :
    k0_pay5 a v (ix2 r 0) = a (ix2 r 0) + ∑ q : Fin 512, v (ix3 0 r q) := pay4_apply a v r

/-- Both sums start from zero. -/
theorem pay1_apply (i : S512x1.Idx) : k0_pay1 (F := Ideal) i = 0 := Ideal.ofBits_zero_f32
theorem pay3_apply (i : S512x1.Idx) : k0_pay3 (F := Ideal) i = 0 := Ideal.ofBits_zero_f32

/-- The two sums added, laid along 128 columns. -/
theorem pay6_apply (a b : FVec Ideal S512x1 .f32) (r : Fin 512) (l : Fin 128) :
    k0_pay6 a b (ix2 r l) = a (ix2 r 0) + b (ix2 r 0) := by
  unfold k0_pay6
  refine (cols_apply _ broadcasts_S512x1_S512x128 r l).trans ?_
  rw [shapeCast_self]
  rfl

/-- A chunk of the output: the exponentials times the reciprocal of their row sum. -/
theorem out_apply (s : Vec Ideal S512x1 .f32) (v : Vec Ideal S1x512x512 .bf16) (r q : Fin 512) :
    k1_pay2 s v (ix2 r q) = v (ix3 0 r q) * Ideal.div 1 (s (ix2 r 0)) := by
  have h1 : k1_pay1 s (ix2 r 0) = Ideal.div 1 (s (ix2 r 0)) := by
    show Ideal.div (Ideal.ofBits .f32 0x3F800000#32) (shapeCast S512x1 s shapeCasts_S512x1_S512x1 (ix2 r 0)) = _
    rw [shapeCast_self, Ideal.ofBits_one_f32]
  have h2 := cols_apply (k1_pay1 s) broadcasts_S512x1_S512x512 r q
  have h3 := shapeCast_1ab_ab_apply v shapeCasts_S1x512x512_S512x512 r q
  exact congrArg₂ (fun a b : EReal => a * b) h3 (h2.trans h1)

/-! ## The product and its exponentials -/

/-- Entry (r, n) of the product of x and the whole W. -/
def lg (x : S512x1024.Idx → EReal) (w : (⟨2, ![1024, 16384]⟩ : Shape).Idx → EReal) (r : Fin 512) (n : ℕ) : EReal :=
  ∑ k : Fin 1024, x (ix2 r k) * w (ix2 k ⟨n % 16384, Nat.mod_lt _ (by decide)⟩)
/-- Its exponential. -/
def ee (x : S512x1024.Idx → EReal) (w : (⟨2, ![1024, 16384]⟩ : Shape).Idx → EReal) (r : Fin 512) (n : ℕ) : EReal := Ideal.exp (lg x w r n)
/-- The sum of the exponentials of row r over columns 512 s to 512 s + 511. -/
def cs (x : S512x1024.Idx → EReal) (w : (⟨2, ![1024, 16384]⟩ : Shape).Idx → EReal) (r : Fin 512) (s : ℕ) : EReal :=
  ∑ q : Fin 512, ee x w r (512 * s + q.val)

variable (m : (ℓ : Loc nD τ sig) → Buf (Elt Ideal) ℓ) (x : S512x1024.Idx → EReal) (w : (⟨2, ![1024, 16384]⟩ : Shape).Idx → EReal)

/-- Every device has x and its half of the columns of W. -/
def Holds : Prop :=
  ∀ c : Dev nD, xIn m c = x ∧ ∀ (k : Fin 1024) (q : Fin 8192),
    wIn m c (ix2 k q) = w (ix2 k ⟨(8192 * (c.val / 2) + q.val) % 16384, Nat.mod_lt _ (by decide)⟩)

variable {m x w}

/-- The body reads x. -/
theorem xv_eq (H : Holds m x w) (c : Dev nD) : xv m c = x := by
  rw [← (H c).1]
  exact shapeCast_self (xIn m c) shapeCasts_S512x1024_S512x1024

/-- Chunk j of device c is columns 512 (16 (c / 2) + j) and on of W. -/
theorem wChunk_apply (H : Holds m x w) (c : Dev nD) (j : ℕ) (hj : j < 16) (u : Fin 1) (k : Fin 1024) (q : Fin 512) :
    wChunk m c j (ix3 u k q) = w (ix2 k ⟨(512 * (16 * (c.val / 2) + j) + q.val) % 16384, Nat.mod_lt _ (by decide)⟩) := by
  refine ((H c).2 k ⟨(512 * j + q.val) % 8192, Nat.mod_lt _ (by decide)⟩).trans ?_
  refine congrArg (fun z => w (ix2 k z)) (Fin.ext ?_)
  show (8192 * (c.val / 2) + (512 * j + q.val) % 8192) % 16384 = (512 * (16 * (c.val / 2) + j) + q.val) % 16384
  have := q.isLt
  omega

/-- So the exponentials computed from it are those of the whole product's columns there. -/
theorem exps_apply (H : Holds m x w) (c : Dev nD) (j : ℕ) (hj : j < 16) (r q : Fin 512) :
    Ideal.exp (∑ k : Fin 1024, xv m c (ix2 r k) * wChunk m c j (ix3 0 k q)) = ee x w r (512 * (16 * (c.val / 2) + j) + q.val) := by
  unfold ee lg
  rw [xv_eq H c]
  exact congrArg Ideal.exp (Finset.sum_congr rfl fun k _ => congrArg (x (ix2 r k) * ·) (wChunk_apply H c j hj 0 k q))

/-- What the device's own exponentials end as. -/
theorem eFin_apply (H : Holds m x w) (c : Dev nD) (j : Fin 16) (r q : Fin 512) :
    eFin m c (ix3 j r q) = ee x w r (512 * (16 * (c.val / 2) + j.val) + q.val) :=
  (pay8_apply (xv m c) (wChunk m c j.val) 0 r q).trans (exps_apply H c j.val j.isLt r q)

/-- The partner differs in the x coordinate, -/
theorem partner_x (c : Dev nD) : (partner c).val / 2 = 1 - c.val / 2 := by revert c; decide
/-- the neighbor has the same -/
theorem neighbor_x (c : Dev nD) : (neighbor c).val / 2 = c.val / 2 := by revert c; decide
/-- and differs in the y coordinate. -/
theorem neighbor_y (c : Dev nD) : (neighbor c).val % 2 = 1 - c.val % 2 := by revert c; decide

/-- What lands from the partner: the half of its exponentials that the device's y coordinate names. -/
theorem rxFin_apply (H : Holds m x w) (c : Dev nD) (k : Fin 8) (r q : Fin 512) :
    rxFin m c (ix3 k r q) = ee x w r (512 * (16 * (1 - c.val / 2) + (8 * (c.val % 2) + k.val)) + q.val) := by
  refine (eFin_apply H (partner c) (mine c k) r q).trans ?_
  rw [partner_x]
  rfl

/-- What lands from the neighbor: the other half. -/
theorem ryFin_apply (H : Holds m x w) (c : Dev nD) (k : Fin 8) (r q : Fin 512) :
    ryFin m c (ix3 k r q) = ee x w r (512 * (16 * (1 - c.val / 2) + (8 * (1 - c.val % 2) + k.val)) + q.val) := by
  refine (rxFin_apply H (neighbor c) k r q).trans ?_
  rw [neighbor_x, neighbor_y]

/-! ## The row sums -/

/-- The first sum after n steps of the first loop, -/
theorem acc1_apply (H : Holds m x w) (c : Dev nD) (r : Fin 512) (n : ℕ) :
    acc1 m c n (ix2 r 0) = ∑ j ∈ Finset.range n, cs x w r (16 * (c.val / 2) + (ck c j).val) := by
  induction n with
  | zero => exact pay1_apply _
  | succ n ih =>
    rw [Finset.sum_range_succ, ← ih]
    refine (pay2_apply _ _ r).trans (congrArg (acc1 m c n (ix2 r 0) + ·) (Finset.sum_congr rfl fun q _ => ?_))
    exact (pay7_apply _ _ r q).trans (exps_apply H c _ (ck c n).isLt r q)

/-- and after n of the second. -/
theorem acc2_apply (H : Holds m x w) (c : Dev nD) (r : Fin 512) (n : ℕ) :
    acc2 m c n (ix2 r 0) = ∑ j ∈ Finset.range (8 + n), cs x w r (16 * (c.val / 2) + (ck c j).val) := by
  induction n with
  | zero => exact acc1_apply H c r 8
  | succ n ih =>
    rw [show 8 + (n + 1) = 8 + n + 1 from rfl, Finset.sum_range_succ, ← ih]
    refine (pay11_apply _ _ _ r).trans (congrArg (acc2 m c n (ix2 r 0) + ·) (Finset.sum_congr rfl fun q _ => ?_))
    exact exps_apply H c _ (ck c (8 + n)).isLt r q

/-- The second sum after n steps of the second loop, -/
theorem accp_apply (H : Holds m x w) (c : Dev nD) (r : Fin 512) (n : ℕ) :
    accp m c n (ix2 r 0) = ∑ j ∈ Finset.range n, cs x w r (16 * (1 - c.val / 2) + (8 * (c.val % 2) + j % 8)) := by
  induction n with
  | zero => exact pay3_apply _
  | succ n ih =>
    rw [Finset.sum_range_succ, ← ih]
    refine (pay4_apply _ _ r).trans (congrArg (accp m c n (ix2 r 0) + ·) (Finset.sum_congr rfl fun q _ => ?_))
    exact rxFin_apply H c ⟨n % 8, Nat.mod_lt _ (by decide)⟩ r q

/-- and after n of the third. -/
theorem accq_apply (H : Holds m x w) (c : Dev nD) (r : Fin 512) (n : ℕ) :
    accq m c n (ix2 r 0) = (∑ j ∈ Finset.range 8, cs x w r (16 * (1 - c.val / 2) + (8 * (c.val % 2) + j % 8)))
      + ∑ j ∈ Finset.range n, cs x w r (16 * (1 - c.val / 2) + (8 * (1 - c.val % 2) + j % 8)) := by
  induction n with
  | zero => exact (accp_apply H c r 8).trans (add_zero _).symm
  | succ n ih =>
    rw [Finset.sum_range_succ _ n, ← add_assoc, ← ih]
    refine (pay5_apply _ _ r).trans (congrArg (accq m c n (ix2 r 0) + ·) (Finset.sum_congr rfl fun q _ => ?_))
    exact ryFin_apply H c ⟨n % 8, Nat.mod_lt _ (by decide)⟩ r q

/-- The 32 stripes in the order in which a device adds them. -/
theorem order (f : ℕ → EReal) (c : Dev nD) :
    (∑ j ∈ Finset.range 16, f (16 * (c.val / 2) + (ck c j).val))
      + ((∑ j ∈ Finset.range 8, f (16 * (1 - c.val / 2) + (8 * (c.val % 2) + j % 8)))
        + ∑ j ∈ Finset.range 8, f (16 * (1 - c.val / 2) + (8 * (1 - c.val % 2) + j % 8)))
      = ∑ s ∈ Finset.range 32, f s := by
  unfold ck
  match c with
  | ⟨0, _⟩ => simp [Finset.sum_range_succ]; ac_rfl
  | ⟨1, _⟩ => simp [Finset.sum_range_succ]; ac_rfl
  | ⟨2, _⟩ => simp [Finset.sum_range_succ]; ac_rfl
  | ⟨3, _⟩ => simp [Finset.sum_range_succ]; ac_rfl

/-- The row sums run over all 16384 columns. -/
theorem sFin_apply (H : Holds m x w) (c : Dev nD) (r : Fin 512) (l : Fin 128) :
    sFin m c (ix2 r l) = ∑ n : Fin 16384, ee x w r n.val := by
  refine (pay6_apply _ _ r l).trans ?_
  rw [acc2_apply H, accq_apply H, order (fun s => cs x w r s) c]
  rw [← Finset.sum_range (fun n => ee x w r n), show 16384 = 32 * 512 from rfl, ← Finset.sum_range_range_mul_add]
  refine Finset.sum_congr rfl fun s _ => ?_
  unfold cs
  rw [Finset.sum_range (fun k => ee x w r (s * 512 + k))]
  exact Finset.sum_congr rfl fun q _ => by rw [Nat.mul_comm]

/-! ## The output -/

/-- A chunk of the device's own exponentials as the second call loads it, -/
theorem eRow_apply (H : Holds m x w) (c : Dev nD) (j : Fin 16) (u : Fin 1) (r q : Fin 512) :
    eRow m c j (ix3 u r q) = ee x w r (512 * (16 * (c.val / 2) + j.val) + q.val) := eFin_apply H c j r q
/-- one of the partner's -/
theorem rxRow_apply (H : Holds m x w) (c : Dev nD) (k : Fin 8) (u : Fin 1) (r q : Fin 512) :
    rxRow c m k (ix3 u r q) = ee x w r (512 * (16 * (1 - c.val / 2) + (8 * (c.val % 2) + k.val)) + q.val) := rxFin_apply H c k r q
/-- and one that the neighbor passed on. -/
theorem ryRow_apply (H : Holds m x w) (c : Dev nD) (k : Fin 8) (u : Fin 1) (r q : Fin 512) :
    ryRow c m k (ix3 u r q) = ee x w r (512 * (16 * (1 - c.val / 2) + (8 * (1 - c.val % 2) + k.val)) + q.val) := ryFin_apply H c k r q

/-- The stripe and the column in it make the column, in each of the three cases. -/
theorem col_e (n y : ℕ) (h : n / 512 / 16 = y) : 512 * (16 * y + n / 512 % 16) + n % 512 = n := by omega
theorem col_rx (n y z : ℕ) (hn : n < 16384) (hy : y < 2) (h : ¬ n / 512 / 16 = y) (h' : n / 512 / 8 % 2 = z) :
    512 * (16 * (1 - y) + (8 * z + n / 512 % 8)) + n % 512 = n := by omega
theorem col_ry (n y z : ℕ) (hn : n < 16384) (hy : y < 2) (hz : z < 2) (h : ¬ n / 512 / 16 = y) (h' : ¬ n / 512 / 8 % 2 = z) :
    512 * (16 * (1 - y) + (8 * (1 - z) + n / 512 % 8)) + n % 512 = n := by omega

/-- A stripe of the output. -/
theorem oCh_apply (H : Holds m x w) (c : Dev nD) (r : Fin 512) (n : ℕ) (hn : n < 16384) :
    oCh m c (n / 512) (ix2 r ⟨n % 512, Nat.mod_lt _ (by decide)⟩) = ee x w r n * Ideal.div 1 (∑ k : Fin 16384, ee x w r k.val) := by
  have hy : c.val / 2 < 2 := by have : c.val < 4 := c.isLt; omega
  have hs : sCol m c (ix2 r 0) = ∑ k : Fin 16384, ee x w r k.val := sFin_apply H c r _
  generalize (∑ k : Fin 16384, ee x w r k.val) = S at hs ⊢
  unfold oCh
  split
  · next h =>
    refine (out_apply _ _ _ _).trans ?_
    rw [hs, eRow_apply H]
    exact congrArg (fun z => ee x w r z * Ideal.div 1 S) (col_e n _ h)
  · next h =>
    split
    · next h' =>
      refine (out_apply _ _ _ _).trans ?_
      rw [hs, rxRow_apply H]
      exact congrArg (fun z => ee x w r z * Ideal.div 1 S) (col_rx n _ _ hn hy h h')
    · next h' =>
      refine (out_apply _ _ _ _).trans ?_
      rw [hs, ryRow_apply H]
      exact congrArg (fun z => ee x w r z * Ideal.div 1 S) (col_ry n _ _ hn hy (Nat.mod_lt _ (by decide)) h h')

/-- The output of a device, which is the same on every device. -/
theorem oFin_apply (H : Holds m x w) (c : Dev nD) (r : Fin 512) (n : Fin 16384) :
    oFin m c (ix2 r n) = ee x w r n.val * Ideal.div 1 (∑ k : Fin 16384, ee x w r k.val) := oCh_apply H c r n.val n.isLt

end Cert.Talk

end
-- ==== Proof.RefValue.lean ====
/-
  The reference at an index, and the softmax identity. Where every entry of x and W is a real number, subtracting a row's
  maximum before the exponential changes nothing: the factor it brings stands above and below the division bar.
-/
module

public import proofs.«01_k».proof.Proof.Gen.ReferenceIdeal.Run
public import Idealize.ShloMosaic.Lib.ValueIdx
public import Idealize.ShloMosaic.Lib.IdealHost
public import Idealize.ShloMosaic.Lib.MatmulPlain
public import Idealize.ShloMosaic.Lib.KernelVsHost

@[expose] public section

noncomputable section

namespace Cert.Softmax

open Cert.ReferenceIdeal Cert.ReferenceIdeal.Gen
open Idealize.ShloMosaic
open Idealize.ShloMosaic.ValueIdx
open scoped BigOperators

/-! ## Real numbers among the extended ones -/

/-- A sum of reals is a real. -/
theorem sum_real {ι : Type} (s : Finset ι) (f : ι → ℝ) : (∑ k ∈ s, (f k : EReal)) = ((∑ k ∈ s, f k : ℝ) : EReal) := by
  classical
  induction s using Finset.induction_on with
  | empty => rfl
  | insert a s ha ih => rw [Finset.sum_insert ha, Finset.sum_insert ha, ih, EReal.coe_add]

/-- The maximum of reals over a set that is not empty is a real. -/
theorem fold_real {ι : Type} (s : Finset ι) (hs : s.Nonempty) (f : ι → ℝ) :
    ∃ M : ℝ, s.fold max (⊥ : EReal) (fun k => (f k : EReal)) = (M : EReal) := by
  classical
  induction hs using Finset.Nonempty.cons_induction with
  | singleton a => exact ⟨f a, by rw [Finset.fold_singleton]; exact max_eq_left bot_le⟩
  | cons a s ha hs ih =>
    obtain ⟨M, hM⟩ := ih
    refine ⟨max (f a) M, ?_⟩
    rw [Finset.fold_cons, hM]
    exact (EReal.coe_strictMono.monotone.map_max).symm

/-- A row of logits all real: the exponential times the reciprocal of the sum is the quotient after any real is subtracted. -/
theorem softmax {ι : Type} [Fintype ι] (f : ι → ℝ) (M : ℝ) (j : ι) :
    Ideal.exp (f j : EReal) * Ideal.div 1 (∑ k, Ideal.exp (f k : EReal))
      = Ideal.div (Ideal.exp ((f j : EReal) - (M : EReal))) (0 + ∑ k, Ideal.exp ((f k : EReal) - (M : EReal))) := by
  have hS : 0 < ∑ k, Real.exp (f k) := Finset.sum_pos (fun k _ => Real.exp_pos _) ⟨j, Finset.mem_univ j⟩
  have hT : (∑ k, Real.exp (f k - M)) = (∑ k, Real.exp (f k)) * Real.exp (-M) := by
    rw [Finset.sum_mul]
    exact Finset.sum_congr rfl fun k _ => by rw [← Real.exp_add, sub_eq_add_neg]
  have hT' : 0 < ∑ k, Real.exp (f k - M) := by rw [hT]; exact mul_pos hS (Real.exp_pos _)
  simp only [← EReal.coe_sub, Ideal.exp_coe]
  rw [sum_real, sum_real, zero_add, Ideal.div_coe hS.ne', Ideal.div_coe hT'.ne', one_mul, ← EReal.coe_mul, ← EReal.coe_mul]
  congr 1
  rw [hT, sub_eq_add_neg, Real.exp_add]
  have := Real.exp_pos (-M)
  field_simp

/-! ## The reference at an index -/

/-- The reductions are along the rows. -/
theorem reduces_row : S512x16384.Reduces [1] S512 := by decide

/-- The k-th entry of row t is (t, k). -/
theorem lift_row (t : Fin 512) (k : Fin (S512x16384.size 1)) :
    reduces_row.lift (ix1 t) k = ix2 t (⟨k.val, k.isLt⟩ : Fin 16384) := by
  funext a; apply Fin.ext
  fin_cases a <;> rfl

/-- A number per row laid along its row. -/
theorem rows_apply (v : S512.Idx → EReal) (r : Fin 512) (n : Fin 16384) :
    broadcastInDim S512x16384 ![0, 1] bcast_S512x1_S512x16384_0_1 (broadcastInDim S512x1 ![0] bcast_S512_S512x1_0 v) (ix2 r n) = v (ix1 r) := by
  refine (broadcastInDim_apply _ _ _ (ix2 r n) (ix2 r 0) fun a => ?_).trans
    (broadcastInDim_apply _ _ v (ix2 r 0) (ix1 r) fun a => ?_)
  · match a with
    | ⟨0, _⟩ => rfl
    | ⟨1, _⟩ => rfl
  · match a with
    | ⟨0, _⟩ => rfl

/-- The row sums. -/
theorem sum_apply (D : FVec Ideal S512x16384 .f32) (r : Fin 512) :
    Host.reduceAdd D (constant S_ .f32 0x00000000#32) reducesTo_S512x16384_S512_d1 h_S_ (ix1 r) = 0 + ∑ k : Fin 16384, D (ix2 r k) := by
  rw [hostReduceAdd_apply, Ideal.hostReduceAdd_single _ reduces_row]
  refine congrArg₂ (fun a b : EReal => a + b) Ideal.ofBits_zero_f32 ?_
  exact Finset.sum_congr rfl fun k _ => congrArg D (lift_row r k)

/-- The word from which the maximum starts is minus infinity. -/
theorem ofBits_negInf : Ideal.ofBits .f32 0xFF800000#32 = ⊥ := by simp [Ideal.ofBits, Ideal.ieee]

/-- The row maxima are real where the entries are. -/
theorem max_real (D : FVec Ideal S512x16384 .f32) (f : Fin 512 → Fin 16384 → ℝ) (hD : ∀ r n, D (ix2 r n) = (f r n : EReal)) (r : Fin 512) :
    ∃ M : ℝ, Host.reduce FloatOps.maximumf D (constant S_ .f32 0xFF800000#32) reducesTo_S512x16384_S512_d1 h_S_ (ix1 r) = (M : EReal) := by
  obtain ⟨M, hM⟩ := fold_real (Finset.univ : Finset (Fin 16384)) ⟨0, Finset.mem_univ _⟩ (f r)
  refine ⟨M, ?_⟩
  rw [Host.reduce_eq_fold_single FloatOps.maximumf D _ reducesTo_S512x16384_S512_d1 reduces_row h_S_, ← hM]
  have e : (D ∘ reduces_row.lift (ix1 r)) = fun k : Fin 16384 => (f r k : EReal) :=
    funext fun k => (congrArg D (lift_row r k)).trans (hD r _)
  have hb : (constant S_ .f32 0xFF800000#32 : FVec Ideal S_ .f32) (Shape.Idx.first h_S_) = (⊥ : EReal) := ofBits_negInf
  exact congrArg₂ (fun (b : EReal) (g : Fin 16384 → EReal) => Finset.fold max b g Finset.univ) hb e

/-- What the reference computes from the product. -/
def soft (D : FVec Ideal S512x16384 .f32) : FVec Ideal S512x16384 .f32 :=
  Host.divf
    (Host.exp (subf D (broadcastInDim S512x16384 ![0, 1] bcast_S512x1_S512x16384_0_1 (broadcastInDim S512x1 ![0] bcast_S512_S512x1_0
      (Host.reduce FloatOps.maximumf D (constant S_ .f32 0xFF800000#32) reducesTo_S512x16384_S512_d1 h_S_)))))
    (broadcastInDim S512x16384 ![0, 1] bcast_S512x1_S512x16384_0_1 (broadcastInDim S512x1 ![0] bcast_S512_S512x1_0
      (Host.reduceAdd
        (Host.exp (subf D (broadcastInDim S512x16384 ![0, 1] bcast_S512x1_S512x16384_0_1 (broadcastInDim S512x1 ![0] bcast_S512_S512x1_0
          (Host.reduce FloatOps.maximumf D (constant S_ .f32 0xFF800000#32) reducesTo_S512x16384_S512_d1 h_S_)))))
        (constant S_ .f32 0x00000000#32) reducesTo_S512x16384_S512_d1 h_S_)))

/-- At real logits it is the exponential times the reciprocal of the sum of the exponentials. -/
theorem soft_apply (D : FVec Ideal S512x16384 .f32) (f : Fin 512 → Fin 16384 → ℝ) (hD : ∀ r n, D (ix2 r n) = (f r n : EReal))
    (r : Fin 512) (n : Fin 16384) :
    soft D (ix2 r n) = Ideal.exp (D (ix2 r n)) * Ideal.div 1 (∑ k : Fin 16384, Ideal.exp (D (ix2 r k))) := by
  obtain ⟨M, hM⟩ := max_real D f hD r
  have hE : ∀ k : Fin 16384, Host.exp (subf D (broadcastInDim S512x16384 ![0, 1] bcast_S512x1_S512x16384_0_1 (broadcastInDim S512x1 ![0] bcast_S512_S512x1_0
      (Host.reduce FloatOps.maximumf D (constant S_ .f32 0xFF800000#32) reducesTo_S512x16384_S512_d1 h_S_)))) (ix2 r k)
      = Ideal.exp ((f r k : EReal) - (M : EReal)) := by
    intro k
    show Ideal.exp (D (ix2 r k) - _) = _
    rw [rows_apply, hM, hD]
  unfold soft
  rw [hostDivf_apply, rows_apply, sum_apply, hE]
  simp only [hE, hD]
  exact (softmax (f r) M n).symm

/-- The product at an index. -/
theorem dot_apply (x : FVec Ideal S512x1024 .f32) (w : FVec Ideal S1024x16384 .f32) (r : Fin 512) (n : Fin 16384) :
    Host.dotGeneral dot_S512x1024_S1024x16384_S512x16384_1_0_0_1_n_n none x w (ix2 r n) = ∑ k : Fin 1024, x (ix2 r k) * w (ix2 k n) := by
  rw [← matmul_zero_eq_dotGeneral]
  refine (Ideal.matmul_plain_apply (M := 512) (K := 1024) (N := 16384) none x w (constant S512x16384 .f32 0x00000000#32) r n).trans ?_
  rw [constant_apply, Ideal.ofBits_zero_f32, zero_add]

/-- The product of real matrices is real. -/
theorem dot_real (x : FVec Ideal S512x1024 .f32) (w : FVec Ideal S1024x16384 .f32) (hx : ∀ i, ∃ a : ℝ, x i = (a : EReal)) (hw : ∀ i, ∃ a : ℝ, w i = (a : EReal)) :
    ∃ f : Fin 512 → Fin 16384 → ℝ, ∀ r n,
      Host.dotGeneral dot_S512x1024_S1024x16384_S512x16384_1_0_0_1_n_n none x w (ix2 r n) = (f r n : EReal) := by
  choose X hX using hx
  choose W hW using hw
  refine ⟨fun r n => ∑ k : Fin 1024, X (ix2 r k) * W (ix2 k n), fun r n => ?_⟩
  rw [dot_apply, ← sum_real]
  exact Finset.sum_congr rfl fun k _ => by rw [hX, hW, EReal.coe_mul]

/-- The reference of real x and W. -/
theorem ref_apply (x : FVec Ideal S512x1024 .f32) (w : FVec Ideal S1024x16384 .f32) (hx : ∀ i, ∃ a : ℝ, x i = (a : EReal)) (hw : ∀ i, ∃ a : ℝ, w i = (a : EReal))
    (r : Fin 512) (n : Fin 16384) :
    soft (Host.dotGeneral dot_S512x1024_S1024x16384_S512x16384_1_0_0_1_n_n none x w) (ix2 r n)
      = Ideal.exp (∑ k : Fin 1024, x (ix2 r k) * w (ix2 k n))
        * Ideal.div 1 (∑ q : Fin 16384, Ideal.exp (∑ k : Fin 1024, x (ix2 r k) * w (ix2 k q))) := by
  obtain ⟨f, hf⟩ := dot_real x w hx hw
  rw [soft_apply _ f hf]
  simp only [dot_apply]

/-! ## The precondition at an entry -/

/-- The word that the precondition compares with is infinity. -/
theorem ofBits_inf : Ideal.ofBits .f32 0x7F800000#32 = ⊤ := by simp [Ideal.ofBits, Ideal.ieee]

/-- An entry whose absolute value is below infinity is a real. -/
theorem real_of_abs {a : EReal} (h : Ideal.cmp .olt (max a (-a)) ⊤ = 1#1) : ∃ b : ℝ, a = (b : EReal) := by
  have h' : max a (-a) < ⊤ := by
    by_contra hn
    have : Ideal.cmp .olt (max a (-a)) ⊤ = BitVec.ofBool (decide (max a (-a) < ⊤)) := rfl
    rw [this, decide_eq_false hn] at h
    exact absurd h (by decide)
  induction a with
  | bot => simp at h'
  | top => simp at h'
  | coe b => exact ⟨b, rfl⟩

end Cert.Softmax

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.RefValue
public import Idealize.ShloMosaic.Adequacy
public import Idealize.ShloMosaic.Init
public import Idealize.ShloMosaic.Lib.Layout
public import Idealize.ShloMosaic.Lib.Quiescent

@[expose] public section

noncomputable section

namespace Cert.Proof

open Idealize.ShloMosaic Idealize.ShloMosaic.TcCoe
open Idealize.SL Idealize.SL.Sem

attribute [local instance] Cert.Kernel.Gen.facts Cert.KernelIdeal.Gen.facts Cert.ReferenceIdeal.Gen.facts

theorem pre_kernelIdeal : Cert.Pre_finite_KernelIdeal.Facts := ⟨by decide, by decide⟩
theorem pre_referenceIdeal : Cert.Pre_finite_ReferenceIdeal.Facts := ⟨by decide, by decide⟩

attribute [local instance] pre_kernelIdeal pre_referenceIdeal

/-! ## The frames

  The kernel is printed twice, once to be read over the machine's floats and once over the extended reals, from the same text. The
  two procedure tables agree pointwise, so the one run serves both. -/

/-- The two calls are set up alike, -/
theorem pcfgs_eq : Cert.Kernel.pcfgs (F := Bits) = Cert.KernelIdeal.pcfgs (F := Bits) := by
  funext i; fin_cases i <;> rfl

/-- their bodies are the same, -/
theorem defs₀_eq : Cert.Kernel.defs₀ (F := Bits) = Cert.KernelIdeal.defs₀ (F := Bits) := by
  funext p l t
  cases p with
  | tc =>
    obtain ⟨l, hl⟩ := l
    match l, hl with
    | 0, _ => rfl
    | 1, _ => rfl
  | _ => rfl

/-- equal parts make equal tables, -/
theorem defs_heq {a b} (h : a = b) {d d' : Defs _ _ _ (Elt Bits) _} (h' : d = d') :
    HEq (Pipeline.defs (nD := Cert.Kernel.nD) (τ := Cert.Kernel.τ) (sig := Cert.Kernel.sig) (Λ₀ := Cert.Kernel.Λ₀) (P := Fin 2) a d)
      (Pipeline.defs (nD := Cert.Kernel.nD) (τ := Cert.Kernel.τ) (sig := Cert.Kernel.sig) (Λ₀ := Cert.Kernel.Λ₀) (P := Fin 2) b d') := by
  subst h h'; rfl

/-- so the tables are equal. -/
theorem defs_eq : Cert.Kernel.defs (F := Bits) = Cert.KernelIdeal.defs (F := Bits) :=
  eq_of_heq (defs_heq pcfgs_eq defs₀_eq)

theorem frame_kernel : Cert.quiescent_Kernel := by
  intro m ρ _
  rw [defs_eq]
  have h : θ_run (Cert.KernelIdeal.defs (F := Bits)) (onTc (τ := Cert.KernelIdeal.τ) Cert.KernelIdeal.main) ⟨m, fun _ => 0, ρ⟩
      (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) ∧ r.2.sem = fun _ => 0) :=
    (θ_run Cert.KernelIdeal.defs _ _).mono (fun _ h => ⟨fun c => (h.1 c).2, h.2⟩) (Cert.Talk.run_main (F := Bits) m ρ)
  exact h

theorem frame_kernelIdeal : Cert.quiescent_KernelIdeal := fun m ρ _ =>
  (θ_run Cert.KernelIdeal.defs _ _).mono (fun _ h => ⟨fun c => (h.1 c).2, h.2⟩) (Cert.Talk.run_main (F := Ideal) m ρ)

theorem frame_kernelIdeal_pre : Cert.quiescent_KernelIdeal_pre_finite_KernelIdeal := fun m ρ _ => frame_kernelIdeal m ρ trivial

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_finite_ReferenceIdeal := fun m ρ _ => frame_referenceIdeal m ρ trivial

/-! ## The value -/

section Value

variable (m : (ℓ : Loc Cert.KernelIdeal.nD Cert.KernelIdeal.τ Cert.KernelIdeal.sig) → Buf (Elt Ideal) ℓ)
  (x : FVec Ideal Cert.ReferenceIdeal.S512x1024 .f32) (w : FVec Ideal Cert.ReferenceIdeal.S1024x16384 .f32)

/-- Each device starts with x and the block of W that its x coordinate names. -/
def Starts : Prop :=
  ∀ c : Dev Cert.KernelIdeal.nD, Cert.Talk.xIn m c = x
    ∧ Cert.Talk.wIn m c = Layout.blockN ⟨2, ![1024, 8192]⟩ ⟨2, ![1024, 16384]⟩ (Layout.meshBlock [2, 2] ![[], [0]] c) w

variable {m x w}

/-- The block of W that device c holds is its x coordinate. -/
theorem block_col (c : Dev Cert.KernelIdeal.nD) : Layout.meshLin [2, 2] c.val [0] = c.val / 2 := by revert c; decide

/-- An entry of a device's block of W. -/
theorem block_apply (c : Dev Cert.KernelIdeal.nD) (k : Fin 1024) (q : Fin 8192) :
    (Layout.blockN ⟨2, ![1024, 8192]⟩ ⟨2, ![1024, 16384]⟩ (Layout.meshBlock [2, 2] ![[], [0]] c) w) (ValueIdx.ix2 k q)
      = w (ValueIdx.ix2 k ⟨(8192 * (c.val / 2) + q.val) % 16384, Nat.mod_lt _ (by decide)⟩) := by
  rw [Layout.blockN_apply]
  refine congrArg w (funext fun a => Fin.ext ?_)
  rw [Layout.TilesN.idx_val]
  match a with
  | ⟨0, _⟩ =>
    show 0 * 1024 + k.val = k.val
    omega
  | ⟨1, _⟩ =>
    show Layout.meshLin [2, 2] c.val [0] * 8192 + q.val = (8192 * (c.val / 2) + q.val) % 16384
    rw [block_col]
    have hc : c.val < 4 := c.isLt
    have := q.isLt
    omega

/-- The blocks, entry by entry. -/
theorem holds (h : Starts m x w) : Cert.Talk.Holds m x w := fun c =>
  ⟨(h c).1, fun k q => by rw [(h c).2]; exact block_apply c k q⟩

/-- The precondition makes every entry of x a real, -/
theorem x_real (hp : Cert.Pre_KernelIdeal_finite_KernelIdeal m) (h : Starts m x w) (i : Cert.ReferenceIdeal.S512x1024.Idx) : ∃ a : ℝ, x i = (a : EReal) := by
  have e := congrFun (hp 0).1 i
  rw [← (h 0).1]
  refine Cert.Softmax.real_of_abs (Eq.trans ?_ e)
  show Ideal.cmp .olt _ _ = Ideal.cmp .olt _ (Ideal.ofBits .f32 0x7F800000#32)
  rw [Cert.Softmax.ofBits_inf]
  rfl

/-- and every entry of a device's block of W, -/
theorem wIn_real (hp : Cert.Pre_KernelIdeal_finite_KernelIdeal m) (c : Dev Cert.KernelIdeal.nD) (i : Cert.KernelIdeal.S1024x8192.Idx) :
    ∃ a : ℝ, Cert.Talk.wIn m c i = (a : EReal) := by
  have e := congrFun (hp c).2 i
  refine Cert.Softmax.real_of_abs (Eq.trans ?_ e)
  show Ideal.cmp .olt _ _ = Ideal.cmp .olt _ (Ideal.ofBits .f32 0x7F800000#32)
  rw [Cert.Softmax.ofBits_inf]
  rfl

/-- so of W: column n lies in the block of device 2 (n / 8192). -/
theorem w_real (hp : Cert.Pre_KernelIdeal_finite_KernelIdeal m) (h : Starts m x w) (i : Cert.ReferenceIdeal.S1024x16384.Idx) : ∃ a : ℝ, w i = (a : EReal) := by
  obtain ⟨k, n, rfl⟩ : ∃ (k : Fin 1024) (n : Fin 16384), i = ValueIdx.ix2 k n := ⟨i 0, i 1, ValueIdx.eq_ix2 i⟩
  have hn := n.isLt
  obtain ⟨a, ha⟩ := wIn_real hp (⟨2 * (n.val / 8192), by show _ < 4; omega⟩ : Dev Cert.KernelIdeal.nD)
    (ValueIdx.ix2 k (⟨n.val % 8192, Nat.mod_lt _ (by decide)⟩ : Fin 8192))
  refine ⟨a, Eq.trans ?_ ha⟩
  refine Eq.trans ?_ ((holds h _).2 k _).symm
  refine congrArg (fun z => w (ValueIdx.ix2 k z)) (Fin.ext ?_)
  show n.val = (8192 * (2 * (n.val / 8192) / 2) + n.val % 8192) % 16384
  omega

/-- A device's output is the reference's. -/
theorem out_eq (hp : Cert.Pre_KernelIdeal_finite_KernelIdeal m) (h : Starts m x w) (c : Dev Cert.KernelIdeal.nD) :
    Cert.Talk.oFin m c = Cert.Softmax.soft (Host.dotGeneral Cert.ReferenceIdeal.dot_S512x1024_S1024x16384_S512x16384_1_0_0_1_n_n none x w) := by
  funext i
  obtain ⟨r, n, rfl⟩ : ∃ (r : Fin 512) (n : Fin 16384), i = ValueIdx.ix2 r n := ⟨i 0, i 1, ValueIdx.eq_ix2 i⟩
  have e : ∀ n : Fin 16384, Cert.Talk.ee x w r n.val = Ideal.exp (∑ k : Fin 1024, x (ValueIdx.ix2 r k) * w (ValueIdx.ix2 k n)) := by
    intro n
    unfold Cert.Talk.ee Cert.Talk.lg
    refine congrArg Ideal.exp (Finset.sum_congr rfl fun k _ => congrArg (fun z => x (ValueIdx.ix2 r k) * w (ValueIdx.ix2 k z)) (Fin.ext ?_))
    exact Nat.mod_eq_of_lt n.isLt
  refine (Cert.Talk.oFin_apply (holds h) c r n).trans (Eq.trans ?_ (Cert.Softmax.ref_apply x w (x_real hp h) (w_real hp h) r n).symm)
  exact congrArg₂ (fun y z : EReal => y * Ideal.div 1 z) (e n) (Finset.sum_congr rfl fun q _ => e q)

end Value

/-- Kernel and reference compute the same function over the extended reals. -/
theorem algebraic : Cert.algebraic_KernelIdeal_ReferenceIdeal_pre_finite_KernelIdeal := by
  intro m ρ m' ρ' hp h
  have hs : Starts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := h
  refine ⟨_, (θ_run Cert.KernelIdeal.defs _ _).mono (fun r hr c => ⟨(hr.1 c).1.trans (out_eq hp hs c), (hr.1 c).2⟩) (Cert.Talk.run_main (F := Ideal) m ρ),
    (θ_run Cert.ReferenceIdeal.defs _ _).mono (fun r hr => hr 0) (Cert.ReferenceIdeal.Value.run (F := Ideal) m' ρ')⟩

theorem claim : Cert.Claim :=
  ⟨Cert.Kernel.Gen.facts, Cert.KernelIdeal.Gen.facts, Cert.ReferenceIdeal.Gen.facts, pre_kernelIdeal, pre_referenceIdeal,
    frame_kernel, frame_kernelIdeal, frame_kernelIdeal_pre, frame_referenceIdeal, frame_referenceIdeal_pre, trivial, algebraic⟩

end Cert.Proof

end
